-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩
abbrev S512x512 : Shape := ⟨2, ![512, 512]⟩
abbrev S2x256x4x64 : Shape := ⟨4, ![2, 256, 4, 64]⟩
abbrev S2x4x256x64 : Shape := ⟨4, ![2, 4, 256, 64]⟩
abbrev S8x256x64 : Shape := ⟨3, ![8, 256, 64]⟩
abbrev S8x64x512 : Shape := ⟨3, ![8, 64, 512]⟩
abbrev S64x512 : Shape := ⟨2, ![64, 512]⟩
abbrev S8 : Shape := ⟨1, ![8]⟩
abbrev S256x256 : Shape := ⟨2, ![256, 256]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S1x64x512 : Shape := ⟨3, ![1, 64, 512]⟩
abbrev S1 : Shape := ⟨1, ![1]⟩

abbrev nBuf : Space → Nat
  | .hbm => 40
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x256x4x64, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x256x4x64, .f32⟩
  | .hbm, ⟨34, _⟩ => ⟨S2x4x256x64, .f32⟩
  | .hbm, ⟨35, _⟩ => ⟨S8x256x64, .f32⟩
  | .hbm, ⟨36, _⟩ => ⟨S2x4x256x64, .f32⟩
  | .hbm, ⟨37, _⟩ => ⟨S8x256x64, .f32⟩
  | .hbm, ⟨38, _⟩ => ⟨S512x512, .f32⟩
  | .hbm, ⟨39, _⟩ => ⟨S2x256x512, .f32⟩
  | .local _ .vmem, ⟨0, _⟩ => ⟨S512x512, .f32⟩
  | .local _ .vmem, ⟨1, _⟩ => ⟨S512x256, .f32⟩
  | .local _ .vmem, ⟨2, _⟩ => ⟨S8x256x64, .f32⟩
  | .local _ .vmem, ⟨3, _⟩ => ⟨S8x256x64, .f32⟩
  | .local _ .vmem, ⟨4, _⟩ => ⟨S256x512, .f32⟩
  | .local _ .vmem, ⟨5, _⟩ => ⟨S512x512, .f32⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S64x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v159 : BitVec 1 := Scalar.cmpi .ne v2 c0_i32_86
  let v160 : BitVec 32 := Scalar.extui v159
  let c0_i32_87 : BitVec 32 := 0#32
  let v161 : BitVec 1 := Scalar.cmpi .ne v160 c0_i32_87
  v161

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev8 : Nat :=
  let c0_i32_446 : BitVec 32 := 0#32
  let c0_i32_444 : BitVec 32 := 0#32
  let c1_i32_445 : BitVec 32 := 1#32
  let v689 : BitVec 32 := Scalar.muli c0_i32_444 c1_i32_445
  let v690 : BitVec 32 := Scalar.addi c0_i32_446 v689
  v690.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v167 : BitVec 1 := Scalar.cmpi .ne v2 c1_i32_91
  let v168 : BitVec 32 := Scalar.extui v167
  let c0_i32_92 : BitVec 32 := 0#32
  let v169 : BitVec 1 := Scalar.cmpi .ne v168 c0_i32_92
  v169

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev9 : Nat :=
  let c0_i32_446 : BitVec 32 := 0#32
  let c1_i32_444 : BitVec 32 := 1#32
  let c1_i32_445 : BitVec 32 := 1#32
  let v689 : BitVec 32 := Scalar.muli c1_i32_444 c1_i32_445
  let v690 : BitVec 32 := Scalar.addi c0_i32_446 v689
  v690.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v175 : BitVec 1 := Scalar.cmpi .ne v2 c2_i32_96
  let v176 : BitVec 32 := Scalar.extui v175
  let c0_i32_97 : BitVec 32 := 0#32
  let v177 : BitVec 1 := Scalar.cmpi .ne v176 c0_i32_97
  v177

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev10 : Nat :=
  let c0_i32_446 : BitVec 32 := 0#32
  let c2_i32_444 : BitVec 32 := 2#32
  let c1_i32_445 : BitVec 32 := 1#32
  let v689 : BitVec 32 := Scalar.muli c2_i32_444 c1_i32_445
  let v690 : BitVec 32 := Scalar.addi c0_i32_446 v689
  v690.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v183 : BitVec 1 := Scalar.cmpi .ne v2 c3_i32_101
  let v184 : BitVec 32 := Scalar.extui v183
  let c0_i32_102 : BitVec 32 := 0#32
  let v185 : BitVec 1 := Scalar.cmpi .ne v184 c0_i32_102
  v185

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev11 : Nat :=
  let c0_i32_446 : BitVec 32 := 0#32
  let c3_i32_444 : BitVec 32 := 3#32
  let c1_i32_445 : BitVec 32 := 1#32
  let v689 : BitVec 32 := Scalar.muli c3_i32_444 c1_i32_445
  let v690 : BitVec 32 := Scalar.addi c0_i32_446 v689
  v690.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_152 : BitVec 32 := 4#32
  let v291 : BitVec 1 := Scalar.cmpi .ne v2 c4_i32_152
  let v292 : BitVec 32 := Scalar.extui v291
  let c0_i32_153 : BitVec 32 := 0#32
  let v293 : BitVec 1 := Scalar.cmpi .ne v292 c0_i32_153
  v293

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev12 : Nat :=
  let c0_i32_446 : BitVec 32 := 0#32
  let c4_i32_444 : BitVec 32 := 4#32
  let c1_i32_445 : BitVec 32 := 1#32
  let v689 : BitVec 32 := Scalar.muli c4_i32_444 c1_i32_445
  let v690 : BitVec 32 := Scalar.addi c0_i32_446 v689
  v690.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v299 : BitVec 1 := Scalar.cmpi .ne v2 c5_i32_157
  let v300 : BitVec 32 := Scalar.extui v299
  let c0_i32_158 : BitVec 32 := 0#32
  let v301 : BitVec 1 := Scalar.cmpi .ne v300 c0_i32_158
  v301

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev13 : Nat :=
  let c0_i32_446 : BitVec 32 := 0#32
  let c5_i32_444 : BitVec 32 := 5#32
  let c1_i32_445 : BitVec 32 := 1#32
  let v689 : BitVec 32 := Scalar.muli c5_i32_444 c1_i32_445
  let v690 : BitVec 32 := Scalar.addi c0_i32_446 v689
  v690.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_162 : BitVec 32 := 6#32
  let v307 : BitVec 1 := Scalar.cmpi .ne v2 c6_i32_162
  let v308 : BitVec 32 := Scalar.extui v307
  let c0_i32_163 : BitVec 32 := 0#32
  let v309 : BitVec 1 := Scalar.cmpi .ne v308 c0_i32_163
  v309

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev14 : Nat :=
  let c0_i32_446 : BitVec 32 := 0#32
  let c6_i32_444 : BitVec 32 := 6#32
  let c1_i32_445 : BitVec 32 := 1#32
  let v689 : BitVec 32 := Scalar.muli c6_i32_444 c1_i32_445
  let v690 : BitVec 32 := Scalar.addi c0_i32_446 v689
  v690.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_167 : BitVec 32 := 7#32
  let v315 : BitVec 1 := Scalar.cmpi .ne v2 c7_i32_167
  let v316 : BitVec 32 := Scalar.extui v315
  let c0_i32_168 : BitVec 32 := 0#32
  let v317 : BitVec 1 := Scalar.cmpi .ne v316 c0_i32_168
  v317

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let c0_i32_448 : BitVec 32 := 0#32
  ![v2.toNat, 0, 0]
def k0_dev15 : Nat :=
  let c0_i32_446 : BitVec 32 := 0#32
  let c7_i32_444 : BitVec 32 := 7#32
  let c1_i32_445 : BitVec 32 := 1#32
  let v689 : BitVec 32 := Scalar.muli c7_i32_444 c1_i32_445
  let v690 : BitVec 32 := Scalar.addi c0_i32_446 v689
  v690.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v318 : BitVec 32 := Scalar.muli v2 c64_i32
  let v319 : Index := Scalar.indexCast v318
  let c0_169 : Index := 0#32
  ![v319.toNat, 0]
def k0_off18 (d0 : Dev nD) (c1_i32_170 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.subi v2 c1_i32_170
  let c8_i32_171 : BitVec 32 := 8#32
  let v323 : BitVec 32 := Scalar.addi v322 c8_i32_171
  let c8_i32_172 : BitVec 32 := 8#32
  let v324 : BitVec 32 := Scalar.remsi v323 c8_i32_172
  ![v324.toNat]
def k0_off19 (d0 : Dev nD) (c1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.subi v2 c1_i32_170
  let c8_i32_171 : BitVec 32 := 8#32
  let v323 : BitVec 32 := Scalar.addi v322 c8_i32_171
  let c8_i32_172 : BitVec 32 := 8#32
  let v324 : BitVec 32 := Scalar.remsi v323 c8_i32_172
  let c0_i32_175 : BitVec 32 := 0#32
  let c0_i32_176 : BitVec 32 := 0#32
  ![v324.toNat, 0, 0]
def k0_off20 (d0 : Dev nD) (c1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.subi v2 c1_i32_170
  let c8_i32_171 : BitVec 32 := 8#32
  let v323 : BitVec 32 := Scalar.addi v322 c8_i32_171
  let c8_i32_172 : BitVec 32 := 8#32
  let v324 : BitVec 32 := Scalar.remsi v323 c8_i32_172
  let v333 : Index := Scalar.indexCast v324
  let c0_179 : Index := 0#32
  let c0_180 : Index := 0#32
  ![v333.toNat, 0, 0]
def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let c0_i32_257 : BitVec 32 := 0#32
  ![v2.toNat, 0, 0]
def k0_dev16 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_251 : BitVec 32 := 1#32
  let v441 : BitVec 32 := Scalar.addi v2 c1_i32_251
  let c8_i32_252 : BitVec 32 := 8#32
  let v442 : BitVec 32 := Scalar.remsi v441 c8_i32_252
  let c1_i32_254 : BitVec 32 := 1#32
  let v443 : BitVec 32 := Scalar.muli v442 c1_i32_254
  let v444 : BitVec 32 := Scalar.addi c0_i32_255 v443
  v444.toNat
def k0_dev17 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_258 : BitVec 32 := 2#32
  let v451 : BitVec 32 := Scalar.addi v2 c2_i32_258
  let c8_i32_259 : BitVec 32 := 8#32
  let v452 : BitVec 32 := Scalar.remsi v451 c8_i32_259
  let c1_i32_261 : BitVec 32 := 1#32
  let v453 : BitVec 32 := Scalar.muli v452 c1_i32_261
  let v454 : BitVec 32 := Scalar.addi c0_i32_262 v453
  v454.toNat
def k0_dev18 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_265 : BitVec 32 := 3#32
  let v461 : BitVec 32 := Scalar.addi v2 c3_i32_265
  let c8_i32_266 : BitVec 32 := 8#32
  let v462 : BitVec 32 := Scalar.remsi v461 c8_i32_266
  let c1_i32_268 : BitVec 32 := 1#32
  let v463 : BitVec 32 := Scalar.muli v462 c1_i32_268
  let v464 : BitVec 32 := Scalar.addi c0_i32_269 v463
  v464.toNat
def k0_dev19 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_272 : BitVec 32 := 4#32
  let v471 : BitVec 32 := Scalar.addi v2 c4_i32_272
  let c8_i32_273 : BitVec 32 := 8#32
  let v472 : BitVec 32 := Scalar.remsi v471 c8_i32_273
  let c1_i32_275 : BitVec 32 := 1#32
  let v473 : BitVec 32 := Scalar.muli v472 c1_i32_275
  let v474 : BitVec 32 := Scalar.addi c0_i32_276 v473
  v474.toNat
def k0_dev20 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_279 : BitVec 32 := 5#32
  let v481 : BitVec 32 := Scalar.addi v2 c5_i32_279
  let c8_i32_280 : BitVec 32 := 8#32
  let v482 : BitVec 32 := Scalar.remsi v481 c8_i32_280
  let c1_i32_282 : BitVec 32 := 1#32
  let v483 : BitVec 32 := Scalar.muli v482 c1_i32_282
  let v484 : BitVec 32 := Scalar.addi c0_i32_283 v483
  v484.toNat
def k0_dev21 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_286 : BitVec 32 := 6#32
  let v491 : BitVec 32 := Scalar.addi v2 c6_i32_286
  let c8_i32_287 : BitVec 32 := 8#32
  let v492 : BitVec 32 := Scalar.remsi v491 c8_i32_287
  let c1_i32_289 : BitVec 32 := 1#32
  let v493 : BitVec 32 := Scalar.muli v492 c1_i32_289
  let v494 : BitVec 32 := Scalar.addi c0_i32_290 v493
  v494.toNat
def k0_dev22 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_293 : BitVec 32 := 7#32
  let v501 : BitVec 32 := Scalar.addi v2 c7_i32_293
  let c8_i32_294 : BitVec 32 := 8#32
  let v502 : BitVec 32 := Scalar.remsi v501 c8_i32_294
  let c1_i32_296 : BitVec 32 := 1#32
  let v503 : BitVec 32 := Scalar.muli v502 c1_i32_296
  let v504 : BitVec 32 := Scalar.addi c0_i32_297 v503
  v504.toNat
def k0_off23 (d0 : Dev nD) (c1_i32_300 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v511 : BitVec 32 := Scalar.subi v2 c1_i32_300
  let c8_i32_301 : BitVec 32 := 8#32
  let v512 : BitVec 32 := Scalar.addi v511 c8_i32_301
  let c8_i32_302 : BitVec 32 := 8#32
  let v513 : BitVec 32 := Scalar.remsi v512 c8_i32_302
  let c64_i32_312 : BitVec 32 := 64#32
  let v526 : BitVec 32 := Scalar.muli v513 c64_i32_312
  let v527 : Index := Scalar.indexCast v526
  let c0_313 : Index := 0#32
  ![v527.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_398 : BitVec 32 := 0#32
  let v637 : BitVec 1 := Scalar.cmpi .ne v2 c0_i32_398
  let v638 : BitVec 32 := Scalar.extui v637
  let c0_i32_399 : BitVec 32 := 0#32
  let v639 : BitVec 1 := Scalar.cmpi .ne v638 c0_i32_399
  v639

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_400 : BitVec 32 := 1#32
  let v640 : BitVec 1 := Scalar.cmpi .ne v2 c1_i32_400
  let v641 : BitVec 32 := Scalar.extui v640
  let c0_i32_401 : BitVec 32 := 0#32
  let v642 : BitVec 1 := Scalar.cmpi .ne v641 c0_i32_401
  v642

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_402 : BitVec 32 := 2#32
  let v643 : BitVec 1 := Scalar.cmpi .ne v2 c2_i32_402
  let v644 : BitVec 32 := Scalar.extui v643
  let c0_i32_403 : BitVec 32 := 0#32
  let v645 : BitVec 1 := Scalar.cmpi .ne v644 c0_i32_403
  v645

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_404 : BitVec 32 := 3#32
  let v646 : BitVec 1 := Scalar.cmpi .ne v2 c3_i32_404
  let v647 : BitVec 32 := Scalar.extui v646
  let c0_i32_405 : BitVec 32 := 0#32
  let v648 : BitVec 1 := Scalar.cmpi .ne v647 c0_i32_405
  v648

def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_406 : BitVec 32 := 4#32
  let v649 : BitVec 1 := Scalar.cmpi .ne v2 c4_i32_406
  let v650 : BitVec 32 := Scalar.extui v649
  let c0_i32_407 : BitVec 32 := 0#32
  let v651 : BitVec 1 := Scalar.cmpi .ne v650 c0_i32_407
  v651

def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_408 : BitVec 32 := 5#32
  let v652 : BitVec 1 := Scalar.cmpi .ne v2 c5_i32_408
  let v653 : BitVec 32 := Scalar.extui v652
  let c0_i32_409 : BitVec 32 := 0#32
  let v654 : BitVec 1 := Scalar.cmpi .ne v653 c0_i32_409
  v654

def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_410 : BitVec 32 := 6#32
  let v655 : BitVec 1 := Scalar.cmpi .ne v2 c6_i32_410
  let v656 : BitVec 32 := Scalar.extui v655
  let c0_i32_411 : BitVec 32 := 0#32
  let v657 : BitVec 1 := Scalar.cmpi .ne v656 c0_i32_411
  v657

def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_412 : BitVec 32 := 7#32
  let v658 : BitVec 1 := Scalar.cmpi .ne v2 c7_i32_412
  let v659 : BitVec 32 := Scalar.extui v658
  let c0_i32_413 : BitVec 32 := 0#32
  let v660 : BitVec 1 := Scalar.cmpi .ne v659 c0_i32_413
  v660

def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_448 : BitVec 32 := 0#32
  let c0_i32_449 : BitVec 32 := 0#32
  ![v2.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x32x64, .f32⟩
  | .hbm, ⟨3, _⟩ => ⟨S2x256x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S2x32x256x256, .f32⟩
  | .hbm, ⟨29, _⟩ => ⟨S_, .f32⟩
  | .hbm, ⟨30, _⟩ => ⟨S2x32x256x256, .f32⟩
  | .hbm, ⟨31, _⟩ => ⟨S2x32x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S2x32x256x256, .i1⟩
  | .hbm, ⟨36, _⟩ => ⟨S2x32x256x256, .f32⟩
  | .hbm, ⟨37, _⟩ => ⟨S2x32x256x256, .f32⟩
  | .hbm, ⟨38, _⟩ => ⟨S_, .f32⟩
  | .hbm, ⟨39, _⟩ => ⟨S2x32x256, .f32⟩
  | .hbm, ⟨40, _⟩ => ⟨S2x32x256x1, .f32⟩
  | .hbm, ⟨41, _⟩ => ⟨S2x32x256x256, .f32⟩
  | .hbm, ⟨42, _⟩ => ⟨S2x32x256x256, .f32⟩
  | .hbm, ⟨43, _⟩ => ⟨S2x32x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x32x256, .f32⟩
  | .hbm, ⟨49, _⟩ => ⟨S2x32x256x1, .f32⟩
  | .hbm, ⟨50, _⟩ => ⟨S_, .f32⟩
  | .hbm, ⟨51, _⟩ => ⟨S_, .f32⟩
  | .hbm, ⟨52, _⟩ => ⟨S2x32x256x1, .i1⟩
  | .hbm, ⟨53, _⟩ => ⟨S2x32x256x1, .f32⟩
  | .hbm, ⟨54, _⟩ => ⟨S2x32x256x1, .f32⟩
  | .hbm, ⟨55, _⟩ => ⟨S2x32x256x256, .f32⟩
  | .hbm, ⟨56, _⟩ => ⟨S2x32x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x32x256x256, .i1⟩
  | .hbm, ⟨61, _⟩ => ⟨S2x32x256x256, .f32⟩
  | .hbm, ⟨62, _⟩ => ⟨S2x32x256x256, .f32⟩
  | .hbm, ⟨63, _⟩ => ⟨S2x32x64x256, .f32⟩
  | .hbm, ⟨64, _⟩ => ⟨S2x256x32x64, .f32⟩
  | .hbm, ⟨65, _⟩ => ⟨S2x256x2048, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Slots.lean ====
/- Loads, stores and shapes of the kernel's buffers, stated over what a memref reads (`owns`): the eight-slot scratch
   buffers are held slot by slot, each slot named by the 1×64×512 value it reads. -/
module

public import proofs.«01_k».proof.Proof.Gen.KernelIdeal.Skeleton
public import proofs.«01_k».proof.Proof.Gen.KernelIdeal.Regions
public import Idealize.ShloMosaic.Lib.Memref
public import Idealize.ShloMosaic.Lib.ShareLeaves
public import Idealize.ShloMosaic.Lib.Rounds
public import Idealize.ShloMosaic.Lib.Rounds.Family
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user's resources: the pipeline library's rounds and the exchange's rounds, whose duties are named by devices. -/
abbrev UU : Type := URounds (GSem nD τ sig) Unit × URounds (GSem nD τ sig) (Dev nD)

local notation "𝕄" => MT nD τ sig Unit (Elt F) ℕ UU ℕ

/-- The pipeline library's rounds among the resources. -/
abbrev EP : Emb (URounds (GSem nD τ sig) Unit) (MT nD τ sig Unit (Elt F) ℕ UU ℕ) := embL
/-- The exchange's rounds among the resources. -/
abbrev ER : Emb (URounds (GSem nD τ sig) (Dev nD)) (MT nD τ sig Unit (Elt F) ℕ UU ℕ) := embR

/-- No loop variants are needed. -/
abbrev 𝒱₀ : Variants := Variants.none

/-- The weakest precondition of a kernel program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns a memref whole and reads `X` through it. -/
abbrev own (c : Dev nD) {sp : Space} {sh : Shape} {e : EltTy} (m : Memref sig .tc sp sh e) (X : sh.Idx → Elt F e) : sProp 𝕄 :=
  owns (c : Thread nD τ) m fullShare X

section Rules

variable {α : Type} {c : Dev nD} {cs : CoreSpace} {s : Shape} {e : EltTy}

/-- A load through an owned memref reads what the memref reads, at the rectangle's places. -/
theorem step_load {Q : α → sProp 𝕄} {m : Memref sig .tc cs s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ WP c (k fun j => X (r.idx j)) Q) -∗ WP c (.op (.load m r hl) k) Q) := by
  iintro H Hk
  ihave H' := (show owns (c : Thread nD τ) m q X
    ⊢ (iprop(∃ f, ⌜m.view.read (Elt F) f = X⌝ ∗ (m.view.loc (c : Thread nD τ) ↦[m.view.set]{q} f)) : sProp 𝕄) from .rfl) $$ H
  icases H' with ⟨%f, %hf, H⟩
  subst hf
  have hS : m.view.setOn r.set ⊆ m.view.set := View.setOn_subset_set _ _
  iapply (wp_load 𝒱₀ (c : Thread nD τ) none Set.univ hS) $$ H
  iintro H
  iapply Hk
  iapply (owns_intro (c : Thread nD τ) m q f)
  iexact H

/-- An unmasked store through an owned memref replaces what it reads on the rectangle. -/
theorem step_store {Q : α → sProp 𝕄} {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X : s.Idx → Elt F e} :
    (own c m X : sProp 𝕄)
      ⊢ iprop((own c m (r.overlay X w) -∗ WP c (k ⟨⟩) Q) -∗ WP c (.op (.store m r w Finset.univ hx hm) k) Q) := by
  iintro H Hk
  ihave H' := (show owns (c : Thread nD τ) m fullShare X
    ⊢ (iprop(∃ f, ⌜m.view.read (Elt F) f = X⌝ ∗ (m.view.loc (c : Thread nD τ) ↦[m.view.set]{fullShare} f)) : sProp 𝕄) from .rfl) $$ H
  icases H' with ⟨%f, %hf, H⟩
  subst hf
  iapply (wp_store 𝒱₀ (c : Thread nD τ) none Set.univ (m := m) (r := r) (S := m.view.set) (f := f) (by
    rw [show (m.access r).setOn Finset.univ = (m.access r).set from rfl]; exact View.set_slice_subset _ _)) $$ H
  iintro H
  iapply Hk
  have e : r.overlay (m.view.read (Elt F) f) w = m.view.read (Elt F) ((m.access r).write (Elt F) f w Finset.univ) := by
    funext j
    by_cases hj : j ∈ r.set
    · obtain ⟨i, rfl⟩ := r.exists_idx_of_mem hj
      change r.overlay _ w (r.emb i) = _
      rw [Rect.overlay_emb]
      exact (View.read_slice_write_emb (v := m.view) r f w (Finset.mem_univ i)).symm
    · rw [Rect.overlay_of_not_mem _ _ _ hj]
      exact (View.read_slice_write_of_not_mem (v := m.view) r f w Finset.univ (by rwa [Rect.map_emb_univ])).symm
  rw [e]
  iapply (owns_intro (c : Thread nD τ) m fullShare)
  iexact H

/-- A load of exactly an owned slice. -/
theorem step_load_slice {Q : α → sProp 𝕄} {m : Memref sig .tc cs s e} {r : Rect s} (hr : ∀ a, r.stride a = 1) {hl : m.view.LoadsAt r.toLoadRect}
    {k : (r.shape.Idx → Elt F e) → Prog (TpuEff nD τ sig (Elt F) Λ₀ .tc) α} {q : PosShare TreeShare} {X : r.shape.Idx → Elt F e} :
    (owns (c : Thread nD τ) (m.slice r hr) q X : sProp 𝕄)
      ⊢ iprop((owns (c : Thread nD τ) (m.slice r hr) q X -∗ WP c (k X) Q) -∗ WP c (.op (.load m r.toLoadRect hl) k) Q) := by
  iintro H Hk
  ihave H' := (show owns (c : Thread nD τ) (m.slice r hr) q X
    ⊢ (iprop(∃ f, ⌜(m.slice r hr).view.read (Elt F) f = X⌝ ∗ ((m.slice r hr).view.loc (c : Thread nD τ) ↦[(m.slice r hr).view.set]{q} f)) : sProp 𝕄) from .rfl) $$ H
  icases H' with ⟨%f, %hf, H⟩
  subst hf
  have hS : (m.access r).set ⊆ (m.slice r hr).view.set := Finset.Subset.refl _
  iapply (wp_load_rect 𝒱₀ (c : Thread nD τ) none Set.univ hS) $$ H
  iintro H
  iapply Hk
  iapply (owns_intro (c : Thread nD τ) (m.slice r hr) q f)
  iexact H

/-- An unmasked store of exactly an owned slice. -/
theorem step_store_slice {Q : α → sProp 𝕄} {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (own c (m.slice r hr) X : sProp 𝕄)
      ⊢ iprop((own c (m.slice r hr) w -∗ WP c (k ⟨⟩) Q) -∗ WP c (.op (.store m r w Finset.univ hx hm) k) Q) := by
  iintro H Hk
  ihave H' := (show owns (c : Thread nD τ) (m.slice r hr) fullShare X
    ⊢ (iprop(∃ f, ⌜(m.slice r hr).view.read (Elt F) f = X⌝ ∗ ((m.slice r hr).view.loc (c : Thread nD τ) ↦[(m.slice r hr).view.set]{fullShare} f)) : sProp 𝕄) from .rfl) $$ H
  icases H' with ⟨%f, %hf, H⟩
  have hS : (m.access r).setOn Finset.univ ⊆ (m.slice r hr).view.set := Finset.Subset.refl _
  iapply (wp_store 𝒱₀ (c : Thread nD τ) none Set.univ hS) $$ H
  iintro H
  iapply Hk
  have e : w = (m.slice r hr).view.read (Elt F) ((m.access r).write (Elt F) f w Finset.univ) :=
    (View.read_write_univ (v := m.access r) f w).symm
  rw [e]
  iapply (owns_intro (c : Thread nD τ) (m.slice r hr) fullShare)
  rw [← e]
  iexact H

end Rules

end Cert.KernelIdeal.Run

end
-- ==== Proof.Proto.lean ====
/- The exchange between the eight devices: its cells, the schedule of their duties with the contents each payment carries,
   what each device owes at launch, and the levels that order the waits. -/
module

public import proofs.«01_k».proof.Proof.Slots

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

/-! ## Slots of the scratch buffers -/

/-- Chunks of the device's own partial result, one for each device that takes it. -/
abbrev sM : Memref sig .tc .vmem S8x64x512 .bf16 := Memref.whole cc0_scratch0
/-- Chunks received from the other devices' partial results. -/
abbrev rM : Memref sig .tc .vmem S8x64x512 .bf16 := Memref.whole cc0_scratch1
/-- Finished chunks received from the other devices. -/
abbrev gM : Memref sig .tc .vmem S8x64x512 .bf16 := Memref.whole cc0_scratch2
/-- The device's own finished chunk. -/
abbrev fM : Memref sig .tc .vmem S64x512 .bf16 := Memref.whole cc0_scratch3

/-- Every slot lies inside the buffer. -/
theorem slot_inb (j : Dev nD) : ∀ a, (![j.val, 0, 0] : Fin 3 → ℕ) a + S1x64x512.size a ≤ S8x64x512.size a := by
  revert j; decide

/-- The rectangle of slot `j` of a buffer of eight slots. -/
abbrev slR (j : Dev nD) : Rect S8x64x512 := Rect.unit (s := S8x64x512) ![j.val, 0, 0] S1x64x512.size (slot_inb j)
/-- Slot `j` of a buffer of eight slots. -/
abbrev sl (M : Memref sig .tc .vmem S8x64x512 .bf16) (j : Dev nD) : Memref sig .tc .vmem S1x64x512 .bf16 :=
  M.slice (slR j) (fun _ => rfl)
/-- The same slot gs the transfers name it, without the leading axis. -/
abbrev sq (m : Memref sig .tc .vmem S1x64x512 .bf16) : Memref sig .tc .vmem S64x512 .bf16 := m.squeeze S64x512 squeezes_S1x64x512_S64x512

/-- A slot's value without the leading axis. -/
def drop1 (X : S1x64x512.Idx → Elt F .bf16) : S64x512.Idx → Elt F .bf16 :=
  fun i => X (Shape.reshapeEquiv squeezes_S1x64x512_S64x512.numel_eq i)
/-- A chunk with a leading axis put on. -/
def add1 (Y : S64x512.Idx → Elt F .bf16) : S1x64x512.Idx → Elt F .bf16 :=
  fun i => Y (Shape.reshapeEquiv squeezes_S1x64x512_S64x512.numel_eq.symm i)

/-- Dropping the leading axis and putting it back changes nothing. -/
theorem add1_drop1 (X : S1x64x512.Idx → Elt F .bf16) : add1 (drop1 X) = X := by
  funext i; unfold add1 drop1; rw [Shape.reshapeEquiv_reshapeEquiv, Shape.reshapeEquiv_self]
/-- Putting the leading axis on and dropping it changes nothing. -/
theorem drop1_add1 (Y : S64x512.Idx → Elt F .bf16) : drop1 (add1 Y) = Y := by
  funext i; unfold add1 drop1; dsimp only; rw [Shape.reshapeEquiv_reshapeEquiv, Shape.reshapeEquiv_self]

/-- What the squeezed slot reads is the slot's value without the leading axis. -/
theorem read_sq (m : Memref sig .tc .vmem S1x64x512 .bf16) (f : m.view.ty.Contents (Elt F)) :
    (sq m).view.read (Elt F) f = drop1 (m.view.read (Elt F) f) := rfl

/-- Owning the slot is owning it squeezed. -/
theorem own_sq (c : Dev nD) (m : Memref sig .tc .vmem S1x64x512 .bf16) (q : PosShare TreeShare) (X : S1x64x512.Idx → Elt F .bf16) :
    (owns (c : Thread nD τ) m q X : sProp 𝕄) ⊢ owns (c : Thread nD τ) (sq m) q (drop1 X) := by
  iintro H
  ihave H' := (show owns (c : Thread nD τ) m q X
    ⊢ (iprop(∃ f, ⌜m.view.read (Elt F) f = X⌝ ∗ (m.view.loc (c : Thread nD τ) ↦[m.view.set]{q} f)) : sProp 𝕄) from .rfl) $$ H
  icases H' with ⟨%f, %hf, H⟩
  subst hf
  rw [← read_sq]
  iapply (owns_intro (c : Thread nD τ) (sq m) q f)
  rw [show (sq m).view.set = m.view.set from View.set_reshape _ _]
  iexact H

/-- Owning the squeezed slot is owning the slot. -/
theorem own_unsq (c : Dev nD) (m : Memref sig .tc .vmem S1x64x512 .bf16) (q : PosShare TreeShare) (Y : S64x512.Idx → Elt F .bf16) :
    (owns (c : Thread nD τ) (sq m) q Y : sProp 𝕄) ⊢ owns (c : Thread nD τ) m q (add1 Y) := by
  iintro H
  ihave H' := (show owns (c : Thread nD τ) (sq m) q Y
    ⊢ (iprop(∃ f, ⌜(sq m).view.read (Elt F) f = Y⌝ ∗ ((sq m).view.loc (c : Thread nD τ) ↦[(sq m).view.set]{q} f)) : sProp 𝕄) from .rfl) $$ H
  icases H' with ⟨%f, %hf, H⟩
  subst hf
  rw [read_sq, add1_drop1]
  iapply (owns_intro (c : Thread nD τ) m q f)
  rw [show (sq m).view.set = m.view.set from View.set_reshape _ _]
  iexact H

/-! ## Cells -/

/-- The kernel's own semaphores: the send and receive semaphores of the two exchanges, eight of each. -/
abbrev dsem (a : Fin 4) (j : Dev nD) : DmaSem sig := ⟨6 + 8 * a.val + j.val, by have := a.isLt; have : j.val < 8 := j.isLt; show _ < 38; omega⟩
/-- The runtime's barrier semaphore. -/
abbrev barS : Sem sig := sig.barrier 0 rfl

/-- Device `c`'s transfer semaphore of family `a` for device `j`. -/
abbrev dcell (c : Dev nD) (a : Fin 4) (j : Dev nD) : GSem nD τ sig := ((c : Thread nD τ), .dma (dsem a j))
/-- Device `c`'s barrier semaphore. -/
abbrev bcell (c : Dev nD) : GSem nD τ sig := ((c : Thread nD τ), .reg barS)

/-- Which of its own semaphores device `c` uses: all but the one of its own number, and seven sends of the second exchange. -/
abbrev used (c : Dev nD) (a : Fin 4) (j : Dev nD) : Prop := if a = 2 then j ≠ 7 else j ≠ c

/-- What one transfer of a chunk adds to a semaphore. -/
abbrev N : ℕ := (fM : Memref sig .tc .vmem S64x512 .bf16).view.dmaCredit
/-- A transfer adds something. -/
theorem N_pos : 0 < N := View.dmaCredit_pos _ (by decide)

/-! ## The schedule -/

section Sched

variable (P : Dev nD → Dev nD → (S1x64x512.Idx → Elt F .bf16)) (Fb : Dev nD → (S64x512.Idx → Elt F .bf16))

/-- To `c`'s barrier, from `d`: the slots of `d` that `c` writes, and that `d`'s receive cells for them are open. -/
def barPay (c d : Dev nD) : sProp 𝕄 :=
  iprop((∃ X, own d (sl rM c) X) ∗ (∃ X, own d (sl gM c) X) ∗ reached ER (dcell d 1 c) 0 ∗ reached ER (dcell d 3 c) 0)

/-- What device `c`'s own semaphore `(a, j)` is paid: the chunk sent, given back; the chunk of `j`'s partial result; a part
    of the share of the finished chunk; the finished chunk of `j`. -/
def dmaPay (c : Dev nD) (a : Fin 4) (j : Dev nD) : sProp 𝕄 :=
  if a = 0 then iprop(∃ X, own c (sl sM j) X)
  else if a = 1 then own c (sl rM j) (P j c)
  else if a = 2 then owns (c : Thread nD τ) fM (ShareLeaves.leaf 3 fullShare j) (Fb c)
  else own c (sl gM j) (add1 (Fb j))

/-- Which of the four families a DMA semaphore belongs to. -/
def fam (s : DmaSem sig) : Fin 4 := if s.val < 14 then 0 else if s.val < 22 then 1 else if s.val < 30 then 2 else 3

/-- A semaphore of family `a` belongs to family `a`. -/
theorem fam_dsem (a : Fin 4) (j : Dev nD) : fam (dsem a j) = a := by revert a j; decide
/-- Different families or numbers give different semaphores. -/
theorem dsem_inj (a b : Fin 4) (i j : Dev nD) (h : dsem a i = dsem b j) : a = b ∧ i = j := by
  have := congrArg Fin.val h; dsimp only at this
  have : i.val < 8 := i.isLt
  have : j.val < 8 := j.isLt
  exact ⟨Fin.ext (by omega), Fin.ext (by omega)⟩

/-- Round 0 only. A barrier has a duty of each other device; a used semaphore has the one duty of its number. -/
def rd : Rounds.Schedule (GSem nD τ sig) (Dev nD) 𝕄 where
  duties g r := if r = 0 ∧ g.1.2 = .tc then (match g.2 with
    | .reg s => if s = barS then Finset.univ.erase g.1.1 else ∅
    | .dma s => Finset.univ.filter fun j => s = dsem (fam s) j ∧ used g.1.1 (fam s) j) else ∅
  unitless _ := False
  amount g _ _ := match g.2 with | .reg _ => 1 | .dma _ => N
  payload g _ d := match g.2 with | .reg _ => barPay g.1.1 d | .dma s => dmaPay P Fb g.1.1 (fam s) d
  amount_pos g _ _ _ := by
    obtain ⟨_, _ | _⟩ := g
    · exact Nat.one_pos
    · exact N_pos

/-- What a cell is paid may be kept in its record. -/
instance rd_payload_storable (g : GSem nD τ sig) (r : ℕ) (d : Dev nD) :
    BI.Storable (upEmb : UEmb _ 𝕄) ((rd P Fb).payload g r d) := by
  obtain ⟨_, _ | _⟩ := g
  · show BI.Storable upEmb (barPay _ d); unfold barPay own; infer_instance
  · show BI.Storable upEmb (dmaPay P Fb _ _ d); unfold dmaPay own; (repeat' split) <;> infer_instance

variable (c : Dev nD) (a : Fin 4) (j : Dev nD)

/-- A barrier is paid by every device but its own. -/
theorem duties_bar : (rd P Fb).duties (bcell c) 0 = Finset.univ.erase c := by
  dsimp only [rd]; rw [if_pos ⟨rfl, rfl⟩, if_pos rfl]
/-- A transfer cell in use is paid once, in the name of its device. -/
theorem duties_dma (h : used c a j) : (rd P Fb).duties (dcell c a j) 0 = {j} := by
  dsimp only [rd]; rw [if_pos ⟨rfl, rfl⟩, fam_dsem]
  ext i
  rw [Finset.mem_filter, Finset.mem_singleton]
  exact ⟨fun hi => (dsem_inj _ _ _ _ hi.2.1).2.symm, fun hi => by subst hi; exact ⟨Finset.mem_univ _, rfl, h⟩⟩
/-- A transfer cell not in use is paid by no one. -/
theorem duties_unused (h : ¬ used c a j) (r : ℕ) : (rd P Fb).duties (dcell c a j) r = ∅ := by
  dsimp only [rd]
  split
  · rw [fam_dsem, Finset.filter_eq_empty_iff]
    intro i _ hi
    rw [← (dsem_inj _ _ _ _ hi.1).2] at hi
    exact h hi.2
  · rfl
/-- After the first round no cell is paid. -/
theorem duties_later (g : GSem nD τ sig) (r : ℕ) (hr : 1 ≤ r) : (rd P Fb).duties g r = ∅ := by
  dsimp only [rd]; rw [if_neg (fun h => by omega)]

/-- A barrier expects seven units. -/
theorem expect_bar : (rd P Fb).expect (bcell c) 0 = 7 := by
  unfold Schedule.expect Schedule.amountOf
  rw [duties_bar, show (Finset.univ.erase c).sum (fun d => (rd P Fb).amount (bcell c) 0 d) = (Finset.univ.erase c).sum fun _ => 1 from rfl,
    Finset.sum_const, Finset.card_erase_of_mem (Finset.mem_univ c), Finset.card_univ]
  rfl
/-- A transfer cell in use expects one transfer. -/
theorem expect_dma (h : used c a j) : (rd P Fb).expect (dcell c a j) 0 = N := by
  unfold Schedule.expect Schedule.amountOf; rw [duties_dma P Fb c a j h, Finset.sum_singleton]; rfl

/-- What a transfer cell is paid. -/
theorem payload_dma (d : Dev nD) : (rd P Fb).payload (dcell c a j) 0 d = dmaPay P Fb c a d := by
  dsimp only [rd]; rw [fam_dsem]

/-- A barrier's whole round: what the seven other devices pay. -/
theorem rest_bar : bigSep ((rd P Fb).duties (bcell c) 0 \ ∅) (fun d => (rd P Fb).payload (bcell c) 0 d)
    = bigSep (Finset.univ.erase c) (fun d => barPay c d) := by
  rw [Finset.sdiff_empty, duties_bar]; exact bigSep_congr fun _ _ => rfl
/-- A transfer cell's whole round: what its one transfer pays. -/
theorem rest_dma (h : used c a j) : bigSep ((rd P Fb).duties (dcell c a j) 0 \ ∅) (fun d => (rd P Fb).payload (dcell c a j) 0 d)
    = dmaPay P Fb c a j := by
  rw [Finset.sdiff_empty, duties_dma P Fb c a j h, bigSep_singleton, payload_dma]

end Sched

/-! ## What each device owes at launch, and the levels -/

/-- The unit the device signals to the barrier of the device `n` further on. -/
def barT (c : Dev nD) (n : Dev nD) : CellTallies nD τ sig Unit := tallyAt (bcell (c + n)) () 1
/-- What the transfer of a chunk of the partial result to `k` adds; nothing where `k` is the device itself. -/
def rsT (c k : Dev nD) : CellTallies nD τ sig Unit := if k = c then 0 else tallyAt (dcell k 1 c) () N
/-- What the transfer of the finished chunk to the device `n` further on adds. -/
def agT (c n : Dev nD) : CellTallies nD τ sig Unit := tallyAt (dcell (c + n) 3 c) () N

/-- The sum of a list of tallies, the first one added last. -/
def sumT : List (CellTallies nD τ sig Unit) → CellTallies nD τ sig Unit
  | [] => 0
  | a :: l => sumT l + a

/-- What is owed with the barrier units `bs`, first-exchange transfers `rs` and second-exchange transfers `gs` to go. -/
abbrev owed (c : Dev nD) (bs rs gs : List (Dev nD)) : CellTallies nD τ sig Unit :=
  sumT (bs.map (barT c) ++ rs.map (rsT c) ++ gs.map (agT c))

/-- Everything owed at launch. -/
abbrev O₀ (c : Dev nD) : CellTallies nD τ sig Unit := owed c [1, 2, 3, 4, 5, 6, 7] [0, 1, 2, 3, 4, 5, 6, 7] [1, 2, 3, 4, 5, 6, 7]

/-- The kinds of debt a cell may carry: one on the tensor cores, none elsewhere. -/
def L (g : GSem nD τ sig) : Finset Unit := if g.1.2 = .tc then {()} else ∅
/-- Barriers at 1, the first exchange's receive cells at 2, the second's at 3, the rest at 0. -/
def lv (g : GSem nD τ sig) (_ : Unit) : ℕ := match g.2 with
  | .reg _ => 1
  | .dma s => if fam s = 1 then 2 else if fam s = 3 then 3 else 0

/-- No debt lies off the tensor cores. -/
theorem L_of_ne (g : GSem nD τ sig) (h : g.1.2 ≠ .tc) : L g = ∅ := if_neg h
/-- On a tensor core there is the one kind of debt. -/
theorem L_tc (c : Dev nD) (sm : SemLoc sig) : L ((c : Thread nD τ), sm) = {()} := if_pos rfl

/-- Something owed in a sum is owed in one of its terms. -/
theorem sumT_pos {l : List (CellTallies nD τ sig Unit)} {g : GSem nD τ sig} {u : Unit} (h : 0 < sumT l g u) : ∃ a ∈ l, 0 < a g u := by
  induction l with
  | nil => exact absurd h (Nat.lt_irrefl 0)
  | cons a l ih =>
    rw [sumT, Pi.add_apply, Finsupp.add_apply] at h
    by_cases ha : 0 < a g u
    · exact ⟨a, List.mem_cons_self, ha⟩
    · obtain ⟨b, hb, hb'⟩ := ih (by omega)
      exact ⟨b, List.mem_cons_of_mem _ hb, hb'⟩

/-- What is owed at one cell is owed at no other. -/
theorem tallyAt_pos {g g' : GSem nD τ sig} {n : ℕ} {u : Unit} (h : 0 < tallyAt g' () n g u) : g = g' := by
  rw [tallyAt_apply] at h
  by_contra hg
  rw [if_neg (fun hh => hg hh.1)] at h
  exact absurd h (Nat.lt_irrefl 0)

/-- What is owed once the barrier units are paid lies on receive cells of the exchanges; of the second one where the first
    exchange's are paid too. -/
theorem owed_pos {c : Dev nD} {rs gs : List (Dev nD)} {g : GSem nD τ sig} {u : Unit} (h : 0 < owed c [] rs gs g u) :
    (∃ k, g = dcell k 1 c ∧ k ∈ rs) ∨ ∃ k, g = dcell k 3 c := by
  obtain ⟨a, ha, hp⟩ := sumT_pos h
  rw [List.map_nil, List.nil_append, List.mem_append, List.mem_map, List.mem_map] at ha
  rcases ha with ⟨k, hk, rfl⟩ | ⟨n, -, rfl⟩
  · unfold rsT at hp
    split at hp
    · exact absurd hp (Nat.lt_irrefl 0)
    · exact .inl ⟨k, tallyAt_pos hp, hk⟩
  · exact .inr ⟨c + n, tallyAt_pos hp⟩

/-- A barrier is at level 1. -/
theorem lv_bar (c : Dev nD) : lv (bcell c) () = 1 := rfl
/-- The level of a transfer cell by its family. -/
theorem lv_dma (c : Dev nD) (a : Fin 4) (j : Dev nD) : lv (dcell c a j) () = if a = 1 then 2 else if a = 3 then 3 else 0 := by
  dsimp only [lv]; rw [fam_dsem]

/-- The barrier may be waited on with both exchanges' transfers to go. -/
theorem mayWait_bar (c : Dev nD) (rs gs : List (Dev nD)) :
    (levAts L lv : sProp 𝕄) ⊢ MayWait (c : Thread nD τ) (.reg barS) () (owed c [] rs gs) :=
  MayOwe.of_cut (L := L) (lev := lv) 1 (fun p hp => by rw [Finset.mem_singleton.mp hp, L_tc]; exact Finset.mem_singleton_self _)
    (fun g u hg => by
      rcases owed_pos hg with ⟨k, rfl, -⟩ | ⟨k, rfl⟩ <;> exact Finset.mem_singleton_self _)
    (fun p hp => by rw [Finset.mem_singleton.mp hp]; exact (lv_bar c).le)
    (fun g u hg => by
      rcases owed_pos hg with ⟨k, rfl, -⟩ | ⟨k, rfl⟩ <;> rw [lv_dma] <;> decide)

/-- A receive cell of the first exchange may be waited on with the second exchange's transfers to go. -/
theorem mayWait_rs (c j : Dev nD) (gs : List (Dev nD)) :
    (levAts L lv : sProp 𝕄) ⊢ MayWait (c : Thread nD τ) (.dma (dsem 1 j)) () (owed c [] [] gs) :=
  MayOwe.of_cut (L := L) (lev := lv) 2 (fun p hp => by rw [Finset.mem_singleton.mp hp, L_tc]; exact Finset.mem_singleton_self _)
    (fun g u hg => by
      rcases owed_pos hg with ⟨k, rfl, -⟩ | ⟨k, rfl⟩ <;> exact Finset.mem_singleton_self _)
    (fun p hp => by rw [Finset.mem_singleton.mp hp]; exact (lv_dma c 1 j).le)
    (fun g u hg => by
      rcases owed_pos hg with ⟨k, rfl, hk⟩ | ⟨k, rfl⟩
      · exact absurd hk List.not_mem_nil
      · rw [lv_dma]; decide)

end Cert.KernelIdeal.Run

end
-- ==== Proof.Steps.lean ====
/- One lemma for each kind of step of the exchange: the signals, the wait on the barrier, the transfers and the waits on
   the kernel's own semaphores. -/
module

public import proofs.«01_k».proof.Proof.Proto

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

/-- A device further on is another device. -/
theorem ne_add (c n : Dev nD) (h : n ≠ 0) : c ≠ c + n := by revert c n; decide
/-- A device further back is another device. -/
theorem sub_ne (c n : Dev nD) (h : n ≠ 0) : c - n ≠ c := by revert c n; decide

/-! ## Names of semaphores and slots at computed offsets -/

/-- The semaphore at offset `j` of a family's array of eight. -/
theorem sem_at (a : Fin 4) (h : 6 + 8 * a.val + S8.numel ≤ 38) (j : Dev nD) {off : Fin 1 → ℕ} (ho : off = ![j.val])
    (inb : ∀ i, off i + S1.size i ≤ S8.size i) :
    (((SemArray.consecutive (6 + 8 * a.val) S8 h).slice (Rect.unit (s := S8) off S1.size inb)).squeeze S_ squeezes_S1_S_).sem = dsem a j := by
  subst ho; revert a j; decide

/-- The first exchange's send semaphore at offset `j`. -/
theorem sem_rsS (j : Dev nD) {off : Fin 1 → ℕ} (ho : off = ![j.val]) (inb : ∀ i, off i + S1.size i ≤ S8.size i) :
    ((cc0_scratch4.slice (Rect.unit (s := S8) off S1.size inb)).squeeze S_ squeezes_S1_S_).sem = dsem 0 j := sem_at 0 (by decide) j ho inb
/-- The first exchange's receive semaphore at offset `j`. -/
theorem sem_rsR (j : Dev nD) {off : Fin 1 → ℕ} (ho : off = ![j.val]) (inb : ∀ i, off i + S1.size i ≤ S8.size i) :
    ((cc0_scratch5.slice (Rect.unit (s := S8) off S1.size inb)).squeeze S_ squeezes_S1_S_).sem = dsem 1 j := sem_at 1 (by decide) j ho inb
/-- The second exchange's send semaphore at offset `j`. -/
theorem sem_agS (j : Dev nD) {off : Fin 1 → ℕ} (ho : off = ![j.val]) (inb : ∀ i, off i + S1.size i ≤ S8.size i) :
    ((cc0_scratch6.slice (Rect.unit (s := S8) off S1.size inb)).squeeze S_ squeezes_S1_S_).sem = dsem 2 j := sem_at 2 (by decide) j ho inb
/-- The second exchange's receive semaphore at offset `j`. -/
theorem sem_agR (j : Dev nD) {off : Fin 1 → ℕ} (ho : off = ![j.val]) (inb : ∀ i, off i + S1.size i ≤ S8.size i) :
    ((cc0_scratch7.slice (Rect.unit (s := S8) off S1.size inb)).squeeze S_ squeezes_S1_S_).sem = dsem 3 j := sem_at 3 (by decide) j ho inb

/-- The slot at a computed offset. -/
theorem slot_at (M : Memref sig .tc .vmem S8x64x512 .bf16) (j : Dev nD) {off : Fin 3 → ℕ} (ho : off = ![j.val, 0, 0])
    (inb : ∀ a, off a + S1x64x512.size a ≤ S8x64x512.size a) (hr) :
    M.slice (Rect.unit (s := S8x64x512) off S1x64x512.size inb) hr = sl M j := by subst ho; rfl

section Steps

variable (P : Dev nD → Dev nD → (S1x64x512.Idx → Elt F .bf16)) (Fb : Dev nD → (S64x512.Idx → Elt F .bf16))

/-- The invariants of all the cells, at the names `K`. -/
def recs (K : GSem nD τ sig → ℕ) : sProp 𝕄 :=
  iprop((bigSep Finset.univ fun x : Dev nD × Fin 4 × Dev nD => cellInv ER (rd P Fb) (K (dcell x.1 x.2.1 x.2.2)) (dcell x.1 x.2.1 x.2.2))
    ∗ bigSep Finset.univ fun d : Dev nD => cellInv ER (rd P Fb) (K (bcell d)) (bcell d))

/-- The cells' records may be used again and again. -/
instance recs_persistent (K : GSem nD τ sig → ℕ) : BI.Persistent (recs P Fb K) := by unfold recs; infer_instance

/-- The record of any transfer cell is among them. -/
theorem recs_d (K : GSem nD τ sig → ℕ) (c : Dev nD) (a : Fin 4) (j : Dev nD) :
    recs P Fb K ⊢ cellInv ER (rd P Fb) (K (dcell c a j)) (dcell c a j) := by
  unfold recs
  exact sep_elim_left.trans (bigSep_elim (Φ := fun x : Dev nD × Fin 4 × Dev nD => (cellInv ER (rd P Fb) (K (dcell x.1 x.2.1 x.2.2)) (dcell x.1 x.2.1 x.2.2) : sProp 𝕄))
    (Finset.mem_univ (c, a, j)))
/-- The record of any barrier is among them. -/
theorem recs_b (K : GSem nD τ sig → ℕ) (c : Dev nD) : recs P Fb K ⊢ cellInv ER (rd P Fb) (K (bcell c)) (bcell c) := by
  unfold recs
  exact sep_elim_right.trans (bigSep_elim (Φ := fun d : Dev nD => (cellInv ER (rd P Fb) (K (bcell d)) (bcell d) : sProp 𝕄)) (Finset.mem_univ c))

/-- What the core owes, whatever it has waited on. -/
def ow (c : Dev nD) (O : CellTallies nD τ sig Unit) : sProp 𝕄 := iprop(∃ W, owes (c : Thread nD τ) O W)

variable (K : GSem nD τ sig → ℕ) (c : Dev nD) {α : Type}

/-- What the signal to the device `n` further on spends. -/
def sigTok (n : Dev nD) : sProp 𝕄 :=
  iprop(dutyTok ER (bcell (c + n)) 0 c ∗ reached ER (bcell (c + n)) 0 ∗ barPay (c + n) c)

/-- A signal pays the other device's barrier with the slots that device writes. -/
theorem step_signal (n : Dev nD) (hn : n ≠ 0) {dv : ℕ} (hdv : dv = (c + n).val) {hlt : dv < nD} (bs rs gs : List (Dev nD))
    {k : PUnit → Prog (TpuEff nD τ sig (Elt F) Λ₀ .tc) α} {Q : α → sProp 𝕄} :
    iprop(recs P Fb K ∗ ow c (owed c (n :: bs) rs gs) ∗ sigTok c n)
      ⊢ iprop((ow c (owed c bs rs gs) -∗ WP c (k ⟨⟩) Q)
        -∗ WP c (.op (.semSignal (Dev.tc (⟨dv, hlt⟩ : Dev nD)) barS (1#32).toInt) k) Q) := by
  rw [show (⟨dv, hlt⟩ : Dev nD) = c + n from Fin.ext hdv]
  unfold ow sigTok
  iintro ⟨#HI, ⟨%W, HO⟩, Htok, Hr, Hpay⟩ Hk
  have hne : c ∈ (Finset.univ.erase (c + n) : Finset (Dev nD)) := by
    refine Finset.mem_erase.mpr ⟨ne_add c n hn, Finset.mem_univ _⟩
  iapply (Rounds.wp_signal 𝒱₀ ER (rd P Fb) (c : Thread nD τ) none (dst := ((c + n : Dev nD) : Thread nD τ)) (sem := barS) (r := 0) (d := c)
      (κ := K (bcell (c + n))) (k' := 1) (by rw [duties_bar]; exact hne) rfl () (owed c bs rs gs) rfl) $$ [HO Htok Hr Hpay]
  · isplitr; · iapply (recs_b P Fb K (c + n)); iexact HI
    isplitl [HO]; · iexact HO
    isplitl [Htok]; · iexact Htok
    isplitl [Hpay]; · rw [show (rd P Fb).payload (bcell (c + n)) 0 c = barPay (c + n) c from rfl]; iexact Hpay
    iexact Hr
  iintro HO
  iapply Hk
  iexists W; iexact HO

/-- The wait on the barrier brings every other device's slots. -/
theorem step_bar (rs gs : List (Dev nD)) {k : PUnit → Prog (TpuEff nD τ sig (Elt F) Λ₀ .tc) α} {Q : α → sProp 𝕄} :
    iprop(recs P Fb K ∗ levAts L lv ∗ ow c (owed c [] rs gs) ∗ cred (tallyAt (bcell c) () 7) ∗ atPos ER (bcell c) 0 ∅ 0)
      ⊢ iprop((ow c (owed c [] rs gs) ∗ atPos ER (bcell c) 1 ∅ 0 ∗ (bigSep (Finset.univ.erase c) fun d => barPay c d) -∗ WP c (k ⟨⟩) Q)
        -∗ WP c (.op (.semWait barS (7#32).toInt) k) Q) := by
  unfold ow
  iintro ⟨#HI, #Hlev, ⟨%W, HO⟩, Hc, Hat⟩ Hk
  iapply (Rounds.wp_wait_rest_token 𝒱₀ ER (rd P Fb) (c : Thread nD τ) none (κ := K (bcell c)) (k' := 7)
      (wpE_semWait_eq 𝒱₀ (c : Thread nD τ) none Set.univ) (Set.mem_univ _) () (O := owed c [] rs gs) (W := W) (R := 0) (m := 0) (T := ∅)
      ((Nat.zero_add 7).trans (expect_bar P Fb c).symm)) $$ [Hc HO Hat]
  · isplitr; · iapply (recs_b P Fb K c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar P Fb c)) $$ Hpay
  iapply Hk
  isplitl [HO]; · iexists _; iexact HO
  isplitl [Hat]; · iexact Hat
  iexact Hp

/-- A wait on one of the device's own semaphores brings what that semaphore is paid. -/
theorem step_wait (a : Fin 4) (j : Dev nD) (hu : used c a j) {s : DmaSem sig} (hs : s = dsem a j) (O : CellTallies nD τ sig Unit)
    (hmay : (levAts L lv : sProp 𝕄) ⊢ MayWait (c : Thread nD τ) (.dma (dsem a j)) () O)
    {sp sp' : Space} {s₁ s₂ : Shape} {e₁ e₂ : EltTy} {src : Memref sig .tc sp' s₁ e₁} {dst : Memref sig .tc sp s₂ e₂} (hN : dst.view.dmaCredit = N)
    {h₁ : src.view.WordExact} {h₂ : dst.view.WordExact}
    {k : PUnit → Prog (TpuEff nD τ sig (Elt F) Λ₀ .tc) α} {Q : α → sProp 𝕄} :
    iprop(recs P Fb K ∗ levAts L lv ∗ ow c O ∗ cred (tallyAt (dcell c a j) () N) ∗ atPos ER (dcell c a j) 0 ∅ 0)
      ⊢ iprop((ow c O ∗ atPos ER (dcell c a j) 1 ∅ 0 ∗ dmaPay P Fb c a j -∗ WP c (k ⟨⟩) Q)
        -∗ WP c (.op (.waitDma2 s src dst h₁ h₂) k) Q) := by
  subst hs
  unfold ow
  iintro ⟨#HI, #Hlev, ⟨%W, HO⟩, Hc, Hat⟩ Hk
  iapply (Rounds.wp_wait_rest_token 𝒱₀ ER (rd P Fb) (c : Thread nD τ) none (κ := K (dcell c a j)) (k' := dst.view.dmaCredit)
      (wpE_waitDma2_eq (src := src) (dst := dst) 𝒱₀ (c : Thread nD τ) none Set.univ) (Set.mem_univ _) () (O := O) (W := W) (R := 0) (m := 0) (T := ∅)
      ((Nat.zero_add _).trans (hN.trans (expect_dma P Fb c a j hu).symm))) $$ [Hc HO Hat]
  · isplitr; · iapply (recs_d P Fb K c a j); iexact HI
    isplitl [Hc]; · rw [hN]; iexact Hc
    isplitl [HO]; · iexact HO
    isplitr; · iapply hmay; iexact Hlev
    iexact Hat
  iintro ⟨HO, Hat, -, Hpay⟩
  ihave Hp := (Entails.of_eq (rest_dma P Fb c a j hu)) $$ Hpay
  iapply Hk
  isplitl [HO]; · iexists _; iexact HO
  isplitl [Hat]; · iexact Hat
  iexact Hp

/-- A transfer of an owned memref into a memref owned on another device pays the two semaphores it names. -/
theorem step_send (c' : Dev nD) (a b : Fin 4) (i j : Dev nD) (hu₁ : used c a i) (hu₂ : used c' b j) {sS sR : DmaSem sig}
    (hS : sS = dsem a i) (hR : sR = dsem b j) {src dst : Memref sig .tc .vmem S64x512 .bf16} (hN : dst.view.dmaCredit = N)
    {q : PosShare TreeShare} {X : S64x512.Idx → Elt F .bf16}
    (hp₁ : (owns (c : Thread nD τ) src q X : sProp 𝕄) ⊢ dmaPay P Fb c a i) (hp₂ : own c' dst X ⊢ dmaPay P Fb c' b j)
    {hsc : dst.view.ref.isScScratch = false}
    {h₁ : src.view.WordExact} {h₂ : dst.view.WordExact}
    {h₃ : DmaTarget.Typed .vmem (.dma sR) (.remote (c' : Thread nD τ) dst (.dma sS) hsc)} (O : CellTallies nD τ sig Unit)
    {k : PUnit → Prog (TpuEff nD τ sig (Elt F) Λ₀ .tc) α} {Q : α → sProp 𝕄} :
    iprop(recs P Fb K ∗ ow c (O + tallyAt (dcell c' b j) () N) ∗ owns (c : Thread nD τ) src q X ∗ (∃ Y, own c' dst Y)
        ∗ dutyTok ER (dcell c a i) 0 i ∗ reached ER (dcell c a i) 0 ∗ dutyTok ER (dcell c' b j) 0 j ∗ reached ER (dcell c' b j) 0)
      ⊢ iprop((ow c O ∗ cred (tallyAt (dcell c a i) () N) -∗ WP c (k ⟨⟩) Q)
        -∗ WP c (.op (.enqueueDma src (.remote (c' : Thread nD τ) dst (.dma sS) hsc) (.dma sR) h₁ h₂ h₃) k) Q) := by
  subst hS hR
  unfold ow
  iintro ⟨#HI, ⟨%W, HO⟩, Hs, ⟨%Y, Hd⟩, Ht₁, Hr₁, Ht₂, Hr₂⟩ Hk
  ihave Hs' := (show owns (c : Thread nD τ) src q X
    ⊢ (iprop(∃ f, ⌜src.view.read (Elt F) f = X⌝ ∗ (src.view.loc (c : Thread nD τ) ↦[src.view.set]{q} f)) : sProp 𝕄) from .rfl) $$ Hs
  icases Hs' with ⟨%fs, %hfs, Hs⟩
  ihave Hd' := (show own c' dst Y
    ⊢ (iprop(∃ f, ⌜dst.view.read (Elt F) f = Y⌝ ∗ (dst.view.loc (c' : Thread nD τ) ↦[dst.view.set]{fullShare} f)) : sProp 𝕄) from .rfl) $$ Hd
  icases Hd' with ⟨%fd, %hfd, Hd⟩
  subst hfs
  iapply (Rounds.wp_send_pointsTo 𝒱₀ ER (rd P Fb) (c : Thread nD τ) none (c' := (c' : Thread nD τ)) (src := src) (dst := dst)
      (sS := .dma (dsem a i)) (sem := .dma (dsem b j)) (q := q) (fs := fs) (fd := fd) (κ₁ := K (dcell c a i)) (κ₂ := K (dcell c' b j))
      (r₁ := 0) (r₂ := 0) (d₁ := i) (d₂ := j)
      (by rw [duties_dma P Fb c a i hu₁]; exact Finset.mem_singleton_self _) (by rw [duties_dma P Fb c' b j hu₂]; exact Finset.mem_singleton_self _)
      () () N hN rfl rfl O rfl (W := W)
      (by rw [payload_dma]; exact (owns_intro (c : Thread nD τ) src q fs).trans hp₁)
      (by
        rw [payload_dma]
        refine (owns_intro (c' : Thread nD τ) dst fullShare _).trans ?_
        rw [View.read_write_univ]; exact hp₂)) $$ [Hs Hd HO Ht₁ Hr₁ Ht₂ Hr₂]
  · isplitr; · iapply (recs_d P Fb K c a i); iexact HI
    isplitr; · iapply (recs_d P Fb K c' b j); iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HO]; · iexists W; iexact HO
  iexact Hc

/-! ## The exchange's steps at the operations' own spelling -/

/-- A slot at a computed offset, as the transfers name it. -/
abbrev sqAt (M : Memref sig .tc .vmem S8x64x512 .bf16) (o : Fin 3 → ℕ) (i : ∀ a, o a + S1x64x512.size a ≤ S8x64x512.size a)
    (hs : ∀ a, (Rect.unit (s := S8x64x512) o S1x64x512.size i).stride a = 1) : Memref sig .tc .vmem S64x512 .bf16 :=
  (M.slice (Rect.unit (s := S8x64x512) o S1x64x512.size i) hs).squeeze S64x512 squeezes_S1x64x512_S64x512
/-- The semaphore at a computed offset of an array of eight. -/
abbrev semAt (A : DmaSems sig S8) (o : Fin 1 → ℕ) (i : ∀ a, o a + S1.size a ≤ S8.size a) : DmaSem sig :=
  ((A.slice (Rect.unit (s := S8) o S1.size i)).squeeze S_ squeezes_S1_S_).sem

/-- What the transfer of chunk `k` of the partial result to device `k` spends; nothing where `k` is the device itself. -/
def rsTok (k : Dev nD) : sProp 𝕄 :=
  if k = c then iprop(emp)
  else iprop(dutyTok ER (dcell c 0 k) 0 k ∗ reached ER (dcell c 0 k) 0 ∗ dutyTok ER (dcell k 1 c) 0 c ∗ reached ER (dcell k 1 c) 0 ∗ ∃ X, own k (sl rM c) X)
/-- What is left of it: the credit to wait with; the chunk itself where `k` is the device. -/
def rsOut (k : Dev nD) : sProp 𝕄 :=
  if k = c then iprop(∃ X, own c (sl sM k) X) else cred (tallyAt (dcell c 0 k) () N)

/-- The transfer of chunk `k` of the partial result to device `k`, made unless `k` is the device itself. -/
theorem step_rs_send (k : Dev nD) {cond : Prop} [Decidable cond] (hc : cond ↔ k ≠ c) {dv : ℕ} (hdv : dv = k.val)
    {oS : Fin 1 → ℕ} (hoS : oS = ![k.val]) {oR : Fin 1 → ℕ} (hoR : oR = ![c.val]) {oX oD : Fin 3 → ℕ} (hoX : oX = ![k.val, 0, 0]) (hoD : oD = ![c.val, 0, 0])
    (rs gs : List (Dev nD)) {hlt : cond → dv < nD} {iS : ∀ i, oS i + S1.size i ≤ S8.size i} {iR : cond → ∀ i, oR i + S1.size i ≤ S8.size i}
    {iX : ∀ a, oX a + S1x64x512.size a ≤ S8x64x512.size a} {iD : cond → ∀ a, oD a + S1x64x512.size a ≤ S8x64x512.size a} {sX : ∀ a, (Rect.unit (s := S8x64x512) oX S1x64x512.size iX).stride a = 1}
    {sD : ∀ h : cond, ∀ a, (Rect.unit (s := S8x64x512) oD S1x64x512.size (iD h)).stride a = 1}
    {sc : ∀ h : cond, (sqAt rM oD (iD h) (sD h)).view.ref.isScScratch = false}
    {w₁ : cond → (sqAt sM oX iX sX).view.WordExact} {w₂ : ∀ h : cond, (sqAt rM oD (iD h) (sD h)).view.WordExact}
    {w₃ : ∀ h : cond, DmaTarget.Typed .vmem (.dma (semAt cc0_scratch5 oR (iR h)))
      (.remote (Dev.tc (⟨dv, hlt h⟩ : Dev nD)) (sqAt rM oD (iD h) (sD h)) (.dma (semAt cc0_scratch4 oS iS)) (sc h))}
    {kk : Prog (TpuEff nD τ sig (Elt F) Λ₀ .tc) α} {Q : α → sProp 𝕄} :
    iprop(recs P Fb K ∗ ow c (owed c [] (k :: rs) gs) ∗ own c (sl sM k) (P c k) ∗ rsTok c k)
      ⊢ iprop((ow c (owed c [] rs gs) ∗ rsOut c k -∗ WP c kk Q)
        -∗ WP c (if h : cond then
            .op (.enqueueDma (sqAt sM oX iX sX)
              (.remote (Dev.tc (⟨dv, hlt h⟩ : Dev nD)) (sqAt rM oD (iD h) (sD h)) (.dma (semAt cc0_scratch4 oS iS)) (sc h))
              (.dma (semAt cc0_scratch5 oR (iR h))) (w₁ h) (w₂ h) (w₃ h)) (fun _ => kk)
          else kk) Q) := by
  subst hoX hoD
  unfold rsTok rsOut
  by_cases hk : k = c
  · rw [dif_neg (fun h => hc.mp h hk), if_pos hk, if_pos hk, show owed c [] (k :: rs) gs = owed c [] rs gs from by
      show sumT _ + rsT c k = _; unfold rsT; rw [if_pos hk, add_zero]; rfl]
    iintro ⟨-, HO, Hs, -⟩ Hk
    iapply Hk
    isplitl [HO]; · iexact HO
    iexists _; iexact Hs
  · rw [dif_pos (hc.mpr hk), if_neg hk, if_neg hk, show owed c [] (k :: rs) gs = owed c [] rs gs + tallyAt (dcell k 1 c) () N from by
      show sumT _ + rsT c k = _; unfold rsT; rw [if_neg hk]; rfl]
    have hd : (⟨dv, hlt (hc.mpr hk)⟩ : Dev nD) = k := Fin.ext hdv
    iintro ⟨#HI, HO, Hs, Ht₁, #Hr₁, Ht₂, #Hr₂, ⟨%Y, Hd⟩⟩ Hk
    ihave Hs := (own_sq c (sl sM k) fullShare (P c k)) $$ Hs
    ihave Hd := (own_sq k (sl rM c) fullShare Y) $$ Hd
    iapply (step_send P Fb K c ⟨dv, hlt (hc.mpr hk)⟩ 0 1 k c (by rw [show used c 0 k ↔ k ≠ c from Iff.rfl]; exact hk)
      (by rw [hd]; exact fun h => hk h.symm) (sem_rsS k hoS iS) (sem_rsR c hoR (iR (hc.mpr hk))) rfl (src := sq (sl sM k)) (dst := sq (sl rM c))
      (X := drop1 (P c k)) (q := fullShare)
      (by
        unfold dmaPay; rw [if_pos rfl]
        iintro H
        ihave H := (own_unsq c (sl sM k) fullShare _) $$ H
        iexists _; iexact H)
      (by
        unfold dmaPay; rw [hd, if_neg (by decide), if_pos rfl]
        refine (own_unsq k (sl rM c) fullShare _).trans ?_
        rw [add1_drop1]) (owed c [] rs gs)) $$ [HO Hs Hd Ht₁ Ht₂]
    · isplitr; · iexact HI
      isplitl [HO]; · rw [hd]; iexact HO
      isplitl [Hs]; · iexact Hs
      isplitl [Hd]; · rw [hd]; iexists _; iexact Hd
      isplitl [Ht₁]; · iexact Ht₁
      isplitr; · iexact Hr₁
      isplitl [Ht₂]; · rw [hd]; iexact Ht₂
      rw [hd]; iexact Hr₂
    iintro ⟨HO, Hc⟩
    iapply Hk
    isplitl [HO]; · iexact HO
    iexact Hc

/-- The position on the send cell of chunk `k`, which is never waited on where `k` is the device itself. -/
def rsPos (k : Dev nD) (r : ℕ) : sProp 𝕄 := atPos ER (dcell c 0 k) (if k = c then 0 else r) ∅ 0

/-- The wait for the transfer of chunk `k` to have left, made unless `k` is the device itself: the chunk comes back. -/
theorem step_rs_sent (k : Dev nD) {cond : Prop} [Decidable cond] (hc : cond ↔ k ≠ c) {oS : Fin 1 → ℕ} (hoS : oS = ![k.val])
    {iS : ∀ i, oS i + S1.size i ≤ S8.size i}
    {sp sp' : Space} {s₁ s₂ : Shape} {e₁ e₂ : EltTy} {src : cond → Memref sig .tc sp' s₁ e₁} {dst : cond → Memref sig .tc sp s₂ e₂}
    (hN : ∀ h, (dst h).view.dmaCredit = N) {w₁ : ∀ h, (src h).view.WordExact} {w₂ : ∀ h, (dst h).view.WordExact}
    {kk : Prog (TpuEff nD τ sig (Elt F) Λ₀ .tc) α} {Q : α → sProp 𝕄} :
    iprop(recs P Fb K ∗ levAts L lv ∗ ow c 0 ∗ rsOut c k ∗ rsPos c k 0)
      ⊢ iprop((ow c 0 ∗ (∃ X, own c (sl sM k) X) ∗ rsPos c k 1 -∗ WP c kk Q)
        -∗ WP c (if h : cond then
            .op (.waitDma2 (semAt cc0_scratch4 oS iS) (src h) (dst h) (w₁ h) (w₂ h)) (fun _ => kk)
          else kk) Q) := by
  unfold rsPos rsOut
  by_cases hk : k = c
  · rw [dif_neg (fun h => hc.mp h hk), if_pos hk, if_pos hk, if_pos hk]
    iintro ⟨-, -, HO, Hs, Hat⟩ Hk
    iapply Hk
    isplitl [HO]; · iexact HO
    isplitl [Hs]; · iexact Hs
    iexact Hat
  · rw [dif_pos (hc.mpr hk), if_neg hk, if_neg hk, if_neg hk]
    iintro ⟨#HI, #Hlev, HO, Hc, Hat⟩ Hk
    iapply (step_wait P Fb K c 0 k (by rw [show used c 0 k ↔ k ≠ c from Iff.rfl]; exact hk) (sem_rsS k hoS iS) 0
      (by rw [MayWait_zero]; exact Affine.affine) (hN (hc.mpr hk))) $$ [HO Hc Hat]
    · isplitr; · iexact HI
      isplitr; · iexact Hlev
      isplitl [HO]; · iexact HO
      isplitl [Hc]; · iexact Hc
      iexact Hat
    iintro ⟨HO, Hat, Hp⟩
    ihave Hp := (show dmaPay P Fb c 0 k ⊢ (iprop(∃ X, own c (sl sM k) X) : sProp 𝕄) from by unfold dmaPay; rw [if_pos rfl]) $$ Hp
    iapply Hk
    isplitl [HO]; · iexact HO
    isplitl [Hp]; · iexact Hp
    iexact Hat

/-- The wait for device `j`'s chunk of its partial result. -/
theorem step_rs_recv (j : Dev nD) (hj : j ≠ c) {oS : Fin 1 → ℕ} (hoS : oS = ![j.val]) {iS : ∀ i, oS i + S1.size i ≤ S8.size i} (gs : List (Dev nD))
    {sp sp' : Space} {s₁ s₂ : Shape} {e₁ e₂ : EltTy} {src : Memref sig .tc sp' s₁ e₁} {dst : Memref sig .tc sp s₂ e₂} (hN : dst.view.dmaCredit = N) {w₁ w₂}
    {k : PUnit → Prog (TpuEff nD τ sig (Elt F) Λ₀ .tc) α} {Q : α → sProp 𝕄} :
    iprop(recs P Fb K ∗ levAts L lv ∗ ow c (owed c [] [] gs) ∗ cred (tallyAt (dcell c 1 j) () N) ∗ atPos ER (dcell c 1 j) 0 ∅ 0)
      ⊢ iprop((ow c (owed c [] [] gs) ∗ atPos ER (dcell c 1 j) 1 ∅ 0 ∗ own c (sl rM j) (P j c) -∗ WP c (k ⟨⟩) Q)
        -∗ WP c (.op (.waitDma2 (semAt cc0_scratch5 oS iS) src dst w₁ w₂) k) Q) := by
  have h := step_wait P Fb K c 1 j (by rw [show used c 1 j ↔ j ≠ c from Iff.rfl]; exact hj) (sem_rsR j hoS iS) (owed c [] [] gs) (mayWait_rs c j gs) hN
    (h₁ := w₁) (h₂ := w₂) (k := k) (Q := Q)
  rwa [show dmaPay P Fb c 1 j = own c (sl rM j) (P j c) from rfl] at h

/-- The wait for device `j`'s finished chunk. -/
theorem step_ag_recv (j : Dev nD) (hj : j ≠ c) {oS : Fin 1 → ℕ} (hoS : oS = ![j.val]) {iS : ∀ i, oS i + S1.size i ≤ S8.size i}
    {sp sp' : Space} {s₁ s₂ : Shape} {e₁ e₂ : EltTy} {src : Memref sig .tc sp' s₁ e₁} {dst : Memref sig .tc sp s₂ e₂} (hN : dst.view.dmaCredit = N) {w₁ w₂}
    {k : PUnit → Prog (TpuEff nD τ sig (Elt F) Λ₀ .tc) α} {Q : α → sProp 𝕄} :
    iprop(recs P Fb K ∗ levAts L lv ∗ ow c 0 ∗ cred (tallyAt (dcell c 3 j) () N) ∗ atPos ER (dcell c 3 j) 0 ∅ 0)
      ⊢ iprop((ow c 0 ∗ atPos ER (dcell c 3 j) 1 ∅ 0 ∗ own c (sl gM j) (add1 (Fb j)) -∗ WP c (k ⟨⟩) Q)
        -∗ WP c (.op (.waitDma2 (semAt cc0_scratch7 oS iS) src dst w₁ w₂) k) Q) := by
  have h := step_wait P Fb K c 3 j (by rw [show used c 3 j ↔ j ≠ c from Iff.rfl]; exact hj) (sem_agR j hoS iS) 0
    (by rw [MayWait_zero]; exact Affine.affine) hN (h₁ := w₁) (h₂ := w₂) (k := k) (Q := Q)
  rwa [show dmaPay P Fb c 3 j = own c (sl gM j) (add1 (Fb j)) from rfl] at h

/-- The wait for the `i`-th transfer of the finished chunk to have left. -/
theorem step_ag_sent (i : Dev nD) (hi : i ≠ 7) {oS : Fin 1 → ℕ} (hoS : oS = ![i.val]) {iS : ∀ i, oS i + S1.size i ≤ S8.size i}
    {sp sp' : Space} {s₁ s₂ : Shape} {e₁ e₂ : EltTy} {src : Memref sig .tc sp' s₁ e₁} {dst : Memref sig .tc sp s₂ e₂} (hN : dst.view.dmaCredit = N) {w₁ w₂}
    {k : PUnit → Prog (TpuEff nD τ sig (Elt F) Λ₀ .tc) α} {Q : α → sProp 𝕄} :
    iprop(recs P Fb K ∗ levAts L lv ∗ ow c 0 ∗ cred (tallyAt (dcell c 2 i) () N) ∗ atPos ER (dcell c 2 i) 0 ∅ 0)
      ⊢ iprop((ow c 0 ∗ atPos ER (dcell c 2 i) 1 ∅ 0 ∗ owns (c : Thread nD τ) fM (ShareLeaves.leaf 3 fullShare i) (Fb c) -∗ WP c (k ⟨⟩) Q)
        -∗ WP c (.op (.waitDma2 (semAt cc0_scratch6 oS iS) src dst w₁ w₂) k) Q) := by
  have h := step_wait P Fb K c 2 i (by rw [show used c 2 i ↔ i ≠ 7 from Iff.rfl]; exact hi) (sem_agS i hoS iS) 0
    (by rw [MayWait_zero]; exact Affine.affine) hN (h₁ := w₁) (h₂ := w₂) (k := k) (Q := Q)
  rwa [show dmaPay P Fb c 2 i = owns (c : Thread nD τ) fM (ShareLeaves.leaf 3 fullShare i) (Fb c) from rfl] at h

/-- What the transfer of the finished chunk to the device `n` further on, at the semaphore `i`, spends. -/
def agTok (n i : Dev nD) : sProp 𝕄 :=
  iprop(owns (c : Thread nD τ) fM (ShareLeaves.leaf 3 fullShare i) (Fb c) ∗ dutyTok ER (dcell c 2 i) 0 i ∗ reached ER (dcell c 2 i) 0
    ∗ dutyTok ER (dcell (c + n) 3 c) 0 c ∗ reached ER (dcell (c + n) 3 c) 0 ∗ ∃ X, own (c + n) (sl gM c) X)

/-- The transfer of the finished chunk to the device `n` further on. -/
theorem step_ag_send (n i : Dev nD) (hn : n ≠ 0) (hi : i ≠ 7) {dv : ℕ} (hdv : dv = (c + n).val)
    {oS : Fin 1 → ℕ} (hoS : oS = ![i.val]) {oR : Fin 1 → ℕ} (hoR : oR = ![c.val]) {oD : Fin 3 → ℕ} (hoD : oD = ![c.val, 0, 0])
    (gs : List (Dev nD)) {hlt : dv < nD} {iS : ∀ i, oS i + S1.size i ≤ S8.size i} {iR : ∀ i, oR i + S1.size i ≤ S8.size i}
    {iD : ∀ a, oD a + S1x64x512.size a ≤ S8x64x512.size a} {sD : ∀ a, (Rect.unit (s := S8x64x512) oD S1x64x512.size iD).stride a = 1}
    {sc : (sqAt gM oD iD sD).view.ref.isScScratch = false} {w₁ : fM.view.WordExact} {w₂ : (sqAt gM oD iD sD).view.WordExact}
    {w₃ : DmaTarget.Typed .vmem (.dma (semAt cc0_scratch7 oR iR))
      (.remote (Dev.tc (⟨dv, hlt⟩ : Dev nD)) (sqAt gM oD iD sD) (.dma (semAt cc0_scratch6 oS iS)) sc)}
    {k : PUnit → Prog (TpuEff nD τ sig (Elt F) Λ₀ .tc) α} {Q : α → sProp 𝕄} :
    iprop(recs P Fb K ∗ ow c (owed c [] [] (n :: gs)) ∗ agTok Fb c n i)
      ⊢ iprop((ow c (owed c [] [] gs) ∗ cred (tallyAt (dcell c 2 i) () N) -∗ WP c (k ⟨⟩) Q)
        -∗ WP c (.op (.enqueueDma fM
              (.remote (Dev.tc (⟨dv, hlt⟩ : Dev nD)) (sqAt gM oD iD sD) (.dma (semAt cc0_scratch6 oS iS)) sc)
              (.dma (semAt cc0_scratch7 oR iR)) w₁ w₂ w₃) k) Q) := by
  subst hoD
  have hd : (⟨dv, hlt⟩ : Dev nD) = c + n := Fin.ext hdv
  unfold agTok
  iintro ⟨#HI, HO, Hs, Ht₁, #Hr₁, Ht₂, #Hr₂, ⟨%Y, Hd⟩⟩ Hk
  ihave Hd := (own_sq (c + n) (sl gM c) fullShare Y) $$ Hd
  iapply (step_send P Fb K c ⟨dv, hlt⟩ 2 3 i c (by rw [show used c 2 i ↔ i ≠ 7 from Iff.rfl]; exact hi)
    (by rw [hd]; exact ne_add c n hn) (sem_agS i hoS iS) (sem_agR c hoR iR) rfl (src := fM) (dst := sq (sl gM c))
    (X := Fb c) (q := ShareLeaves.leaf 3 fullShare i)
    (by unfold dmaPay; rw [if_neg (by decide), if_neg (by decide), if_pos rfl])
    (by
      unfold dmaPay; rw [hd, if_neg (by decide), if_neg (by decide), if_neg (by decide)]
      exact own_unsq (c + n) (sl gM c) fullShare _) (owed c [] [] gs)) $$ [HO Hs Hd Ht₁ Ht₂]
  · isplitr; · iexact HI
    isplitl [HO]; · rw [hd]; iexact HO
    isplitl [Hs]; · iexact Hs
    isplitl [Hd]; · rw [hd]; iexists _; iexact Hd
    isplitl [Ht₁]; · iexact Ht₁
    isplitr; · iexact Hr₁
    isplitl [Ht₂]; · rw [hd]; iexact Ht₂
    rw [hd]; iexact Hr₂
  iintro ⟨HO, Hc⟩
  iapply Hk
  isplitl [HO]; · iexact HO
  iexact Hc

end Steps

end Cert.KernelIdeal.Run

end
-- ==== Proof.Vals.lean ====
/- The values that flow through the kernel on one device, from what its five input windows hold. -/
module

public import proofs.«01_k».proof.Proof.Steps

@[expose] public section

noncomputable section

namespace Cert.KernelIdeal.Run

open Idealize.ShloMosaic Idealize.ShloMosaic.TcCoe
open Cert.KernelIdeal.Gen

variable {F : FTy → Type} [FloatOps F]

/-- What a device's five input windows hold: the activations, its columns of the query weights, its heads' keys and
    values, its rows of the output weights. -/
structure Ins (F : FTy → Type) where
  x : S512x512.Idx → Elt F .f32
  wq : S512x256.Idx → Elt F .f32
  kh : S8x256x64.Idx → Elt F .f32
  vh : S8x256x64.Idx → Elt F .f32
  wo : S256x512.Idx → Elt F .f32

namespace Ins

variable (I : Ins F)

/-- The rows of `x` as loaded. -/
def ldx : Vec F S512x512 .f32 := fun j => I.x ((Rect.unit (s := S512x512) ![0, 0] S512x512.size inb_S512x512_S512x512_0_0).toLoadRect.idx j)
/-- The query weights as loaded. -/
def ldwq : Vec F S512x256 .f32 := fun j => I.wq ((Rect.unit (s := S512x256) ![0, 0] S512x256.size inb_S512x256_S512x256_0_0).toLoadRect.idx j)
/-- The output weights as loaded. -/
def ldwo : Vec F S256x512 .f32 := fun j => I.wo ((Rect.unit (s := S256x512) ![0, 0] S256x512.size inb_S256x512_S256x512_0_0).toLoadRect.idx j)

/-- The keys or values of the `n`-th pair of a batch entry and a head. -/
def head (X : S8x256x64.Idx → Elt F .f32) (n : ℕ) (h : ∀ a, (![n, 0, 0] : Fin 3 → ℕ) a + S1x256x64.size a ≤ S8x256x64.size a) : Vec F S1x256x64 .f32 :=
  fun j => X ((Rect.unit (s := S8x256x64) ![n, 0, 0] S1x256x64.size h).toLoadRect.idx j)

/-- The output weights in the half format. -/
def wob : FVec F S256x512 .bf16 := k0_pay1 I.ldwo
/-- The queries. -/
def qs : FVec F S512x256 .f32 := k0_pay2 I.ldx I.ldwq
/-- The scores of pair 0, not yet scaled or masked. -/
def s0 : FVec F S256x256 .f32 := k0_pay4 I.ldx I.ldwq (head I.kh 0 inb_S8x256x64_S1x256x64_0_0_0)
/-- The attention of pair 0. -/
def h0 : FVec F S256x64 .f32 := k0_pay5 k0_pay3 I.s0 (Scalar.ofBits .f32 0x3E000000#32) (head I.vh 0 inb_S8x256x64_S1x256x64_0_0_0)
/-- The weights of pair 1. -/
def w1 : FVec F S256x256 .bf16 := k0_pay6 I.qs k0_pay3 (head I.kh 1 inb_S8x256x64_S1x256x64_1_0_0)
/-- The values of pair 1. -/
def u1 : FVec F S256x64 .bf16 := k0_pay7 (head I.vh 1 inb_S8x256x64_S1x256x64_1_0_0)
/-- The attention of pair 1. -/
def h1 : FVec F S256x64 .f32 := k0_pay8 I.w1 I.u1 (constant S256x64 .f32 0x00000000#32)
/-- The attention of pair 2. -/
def h2 : FVec F S256x64 .f32 := k0_pay9 I.qs k0_pay3 (head I.kh 2 inb_S8x256x64_S1x256x64_2_0_0) (head I.vh 2 inb_S8x256x64_S1x256x64_2_0_0)
/-- The exponentials of pair 3. -/
def s3 : FVec F S256x256 .f32 := k0_pay10 I.qs k0_pay3 (head I.kh 3 inb_S8x256x64_S1x256x64_3_0_0)
/-- The partial result's first batch entry. -/
def top : FVec F S256x512 .f32 := k0_pay11 I.wob I.h0 I.h1 I.h2 I.s3 (head I.vh 3 inb_S8x256x64_S1x256x64_3_0_0)
/-- The attention of pair 4. -/
def h4 : FVec F S256x64 .f32 := k0_pay17 I.qs k0_pay3 (head I.kh 4 inb_S8x256x64_S1x256x64_4_0_0) (head I.vh 4 inb_S8x256x64_S1x256x64_4_0_0)
/-- The attention of pair 5. -/
def h5 : FVec F S256x64 .f32 := k0_pay18 I.qs k0_pay3 (head I.kh 5 inb_S8x256x64_S1x256x64_5_0_0) (head I.vh 5 inb_S8x256x64_S1x256x64_5_0_0)
/-- The exponentials of pair 6. -/
def s6 : FVec F S256x256 .f32 := k0_pay19 I.qs k0_pay3 (head I.kh 6 inb_S8x256x64_S1x256x64_6_0_0)
/-- The sums of their rows. -/
def m6 : FVec F S256 .f32 := k0_pay20 I.qs k0_pay3 (head I.kh 6 inb_S8x256x64_S1x256x64_6_0_0)
/-- The partial result's second batch entry. -/
def bot : FVec F S256x512 .f32 := k0_pay21 I.wob I.qs k0_pay3 I.h4 I.h5 I.s6 I.m6 (head I.vh 6 inb_S8x256x64_S1x256x64_6_0_0)
  (head I.kh 7 inb_S8x256x64_S1x256x64_7_0_0) (head I.vh 7 inb_S8x256x64_S1x256x64_7_0_0)
/-- The rows of chunk 4 in the half format. -/
def b4 : FVec F S64x512 .bf16 := k0_pay22 I.wob I.qs k0_pay3 I.h4 I.h5 I.s6 I.m6 (head I.vh 6 inb_S8x256x64_S1x256x64_6_0_0)
  (head I.kh 7 inb_S8x256x64_S1x256x64_7_0_0) (head I.vh 7 inb_S8x256x64_S1x256x64_7_0_0)
/-- The rows of chunk 2 in the half format. -/
def t2 : FVec F S64x512 .bf16 := k0_pay14 I.wob I.h0 I.h1 I.h2 I.s3 (head I.vh 3 inb_S8x256x64_S1x256x64_3_0_0)

/-- Chunk `k` of the partial result, as sent. -/
def chunk (k : Dev nD) : S1x64x512.Idx → Elt F .bf16 := match k with
  | 0 => k0_pay12 I.wob I.h0 I.h1 I.h2 I.s3 (head I.vh 3 inb_S8x256x64_S1x256x64_3_0_0)
  | 1 => k0_pay13 I.wob I.h0 I.h1 I.h2 I.s3 (head I.vh 3 inb_S8x256x64_S1x256x64_3_0_0)
  | 2 => k0_pay15 I.t2
  | 3 => k0_pay16 I.top
  | 4 => k0_pay23 I.b4
  | 5 => k0_pay24 I.bot
  | 6 => k0_pay25 I.bot
  | 7 => k0_pay26 I.bot

/-- The rectangle of the output's first 256 rows. -/
abbrev rTop : Rect S512x512 := Rect.unit (s := S512x512) ![0, 0] S256x512.size inb_S512x512_S256x512_0_0
/-- The rectangle of its other 256 rows. -/
abbrev rBot : Rect S512x512 := Rect.unit (s := S512x512) ![256, 0] S256x512.size inb_S512x512_S256x512_256_0

/-- The partial result. -/
def part : S512x512.Idx → Elt F .f32 := rBot.overlay (rTop.overlay (fun _ => Scalar.ofBits .f32 0x00000000#32) I.top) I.bot

/-- Whatever the output window held, the two halves fill it. -/
theorem part_eq (G : S512x512.Idx → Elt F .f32) : rBot.overlay (rTop.overlay G I.top) I.bot = I.part := by
  funext i
  unfold part
  by_cases hb : i ∈ rBot.set
  · obtain ⟨j, rfl⟩ := rBot.exists_idx_of_mem hb
    change rBot.overlay _ _ (rBot.emb j) = rBot.overlay _ _ (rBot.emb j)
    rw [Rect.overlay_emb, Rect.overlay_emb]
  · rw [Rect.overlay_of_not_mem _ _ _ hb, Rect.overlay_of_not_mem _ _ _ hb]
    by_cases ht : i ∈ rTop.set
    · obtain ⟨j, rfl⟩ := rTop.exists_idx_of_mem ht
      change rTop.overlay _ _ (rTop.emb j) = rTop.overlay _ _ (rTop.emb j)
      rw [Rect.overlay_emb, Rect.overlay_emb]
    · exfalso
      have h0 : (i 0).val < 512 := (i 0).isLt
      have h1 : (i 1).val < 512 := (i 1).isLt
      rw [Rect.mem_set_unit] at hb ht
      by_cases h : (i 0).val < 256
      · exact ht fun a => by
          fin_cases a
          · exact ⟨Nat.zero_le _, h⟩
          · exact ⟨Nat.zero_le _, h1⟩
      · exact hb fun a => by
          fin_cases a
          · exact ⟨not_lt.mp h, h0⟩
          · exact ⟨Nat.zero_le _, h1⟩

end Ins

section Exchange

variable (I : Dev nD → Ins F) (c : Dev nD)

/-- Device `j`'s chunk `k`. -/
abbrev P (j k : Dev nD) : S1x64x512.Idx → Elt F .bf16 := (I j).chunk k

/-- The rectangle of the device's own rows of the output. -/
abbrev rOwn : Rect S512x512 := Rect.unit (s := S512x512) (k0_off17 c) S64x512.size (Gen.k0_off17_inb c)

/-- The device's own rows of its partial result. -/
def own0 : FVec F S64x512 .f32 := fun j => (I c).part ((rOwn c).toLoadRect.idx j)
/-- Those with the chunks of the devices one and two back added. -/
def acc2 : FVec F S64x512 .f32 := k0_pay27 (own0 I c) (P I (c - 1) c) (P I (c - 2) c)
/-- And those of the devices three and four back. -/
def acc4 : FVec F S64x512 .f32 := k0_pay28 (acc2 I c) (P I (c - 3) c) (P I (c - 4) c)
/-- And those of the devices five and six back. -/
def acc6 : FVec F S64x512 .f32 := k0_pay29 (acc4 I c) (P I (c - 5) c) (P I (c - 6) c)
/-- The device's own finished rows. -/
def fin : FVec F S64x512 .f32 := k0_pay30 (acc6 I c) (P I (c - 7) c)
/-- The same as sent. -/
def Fb : FVec F S64x512 .bf16 := k0_pay31 (acc6 I c) (P I (c - 7) c)

/-- The rows that the device `n` back finished. -/
abbrev rAt (n : BitVec 32) (h : ∀ a, k0_off23 c n a + S64x512.size a ≤ S512x512.size a) : Rect S512x512 :=
  Rect.unit (s := S512x512) (k0_off23 c n) S64x512.size h

/-- The output window with its own finished rows. -/
def out0 : S512x512.Idx → Elt F .f32 := (rOwn c).overlay (I c).part (fin I c)
/-- The same with the finished rows of the device one back. -/
def out1 : S512x512.Idx → Elt F .f32 := (rAt c 1#32 (Gen.k0_off23_inb c 0)).overlay (out0 I c) (k0_pay32 (add1 (Fb I (c - 1))))
/-- The same with the finished rows of the device two back. -/
def out2 : S512x512.Idx → Elt F .f32 := (rAt c 2#32 (Gen.k0_off23_inb c 1)).overlay (out1 I c) (k0_pay33 (add1 (Fb I (c - 2))))
/-- The same with the finished rows of the device three back. -/
def out3 : S512x512.Idx → Elt F .f32 := (rAt c 3#32 (Gen.k0_off23_inb c 2)).overlay (out2 I c) (k0_pay34 (add1 (Fb I (c - 3))))
/-- The same with the finished rows of the device four back. -/
def out4 : S512x512.Idx → Elt F .f32 := (rAt c 4#32 (Gen.k0_off23_inb c 3)).overlay (out3 I c) (k0_pay35 (add1 (Fb I (c - 4))))
/-- The same with the finished rows of the device five back. -/
def out5 : S512x512.Idx → Elt F .f32 := (rAt c 5#32 (Gen.k0_off23_inb c 4)).overlay (out4 I c) (k0_pay36 (add1 (Fb I (c - 5))))
/-- The same with the finished rows of the device six back. -/
def out6 : S512x512.Idx → Elt F .f32 := (rAt c 6#32 (Gen.k0_off23_inb c 5)).overlay (out5 I c) (k0_pay37 (add1 (Fb I (c - 6))))
/-- What the output window holds in the end. -/
def outF : S512x512.Idx → Elt F .f32 := (rAt c 7#32 (Gen.k0_off23_inb c 6)).overlay (out6 I c) (k0_pay38 (add1 (Fb I (c - 7))))

end Exchange

end Cert.KernelIdeal.Run

end
-- ==== Proof.Bundles.lean ====
/- The eight or seven pieces of a resource, one for each device, named one by one; and what the wait on the barrier opens. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One piece for each distance 1, …, 7. -/
def seven (Φ : Dev nD → sProp 𝕄) : sProp 𝕄 := iprop(Φ 1 ∗ Φ 2 ∗ Φ 3 ∗ Φ 4 ∗ Φ 5 ∗ Φ 6 ∗ Φ 7)
/-- One piece for each device. -/
def eight (Φ : Dev nD → sProp 𝕄) : sProp 𝕄 := iprop(Φ 0 ∗ Φ 1 ∗ Φ 2 ∗ Φ 3 ∗ Φ 4 ∗ Φ 5 ∗ Φ 6 ∗ Φ 7)

/-- A `bigSep` over the distances other than 0, piece by piece. -/
theorem seven_eq (Φ : Dev nD → sProp 𝕄) : bigSep (Finset.univ.erase 0) Φ = seven Φ := by
  rw [show (Finset.univ.erase 0 : Finset (Dev nD)) = {1, 2, 3, 4, 5, 6, 7} from by decide]
  rw [bigSep_insert (by decide), bigSep_insert (by decide), bigSep_insert (by decide), bigSep_insert (by decide), bigSep_insert (by decide),
    bigSep_insert (by decide), bigSep_singleton]
  rfl

/-- A `bigSep` over the devices, piece by piece. -/
theorem eight_eq (Φ : Dev nD → sProp 𝕄) : bigSep Finset.univ Φ = eight Φ := by
  rw [show (Finset.univ : Finset (Dev nD)) = {0, 1, 2, 3, 4, 5, 6, 7} from by decide]
  rw [bigSep_insert (by decide), bigSep_insert (by decide), bigSep_insert (by decide), bigSep_insert (by decide), bigSep_insert (by decide),
    bigSep_insert (by decide), bigSep_insert (by decide), bigSep_singleton]
  rfl

/-- The distances, as an embedding of themselves into the devices further on from `c`. -/
def fwd (c : Dev nD) : Dev nD ↪ Dev nD := ⟨fun n => c + n, by revert c; decide⟩
/-- The same into the devices further back. -/
def bwd (c : Dev nD) : Dev nD ↪ Dev nD := ⟨fun n => c - n, by revert c; decide⟩

/-- The other devices are those at the distances 1, …, 7 further on. -/
theorem others_fwd (c : Dev nD) (Φ : Dev nD → sProp 𝕄) : bigSep (Finset.univ.erase c) Φ = seven fun n => Φ (c + n) := by
  rw [← seven_eq, show (Finset.univ.erase c : Finset (Dev nD)) = (Finset.univ.erase 0).map (fwd c) from by revert c; decide, bigSep_map]
  rfl
/-- The other devices are those at the distances 1, …, 7 further back. -/
theorem others_bwd (c : Dev nD) (Φ : Dev nD → sProp 𝕄) : bigSep (Finset.univ.erase c) Φ = seven fun n => Φ (c - n) := by
  rw [← seven_eq, show (Finset.univ.erase c : Finset (Dev nD)) = (Finset.univ.erase 0).map (bwd c) from by revert c; decide, bigSep_map]
  rfl

/-- A `bigSep` over the other devices is one over all devices with nothing at `c`. -/
theorem others_ite (c : Dev nD) (Φ : Dev nD → sProp 𝕄) :
    bigSep (Finset.univ.erase c) Φ = bigSep Finset.univ fun k => if k = c then iprop(emp) else Φ k := by
  rw [← Finset.filter_ne' Finset.univ c, bigSep_filter]
  refine bigSep_congr fun k _ => ?_
  by_cases h : k = c
  · rw [if_neg (not_not.mpr h), if_pos h]; rfl
  · rw [if_pos h, if_neg h]

variable (c : Dev nD)

/-- The duties that the transfer of chunk `k` of the partial result fulfils. -/
def rsDuty (k : Dev nD) : sProp 𝕄 :=
  if k = c then iprop(emp)
  else iprop(dutyTok ER (dcell c 0 k) 0 k ∗ reached ER (dcell c 0 k) 0 ∗ dutyTok ER (dcell k 1 c) 0 c)
/-- The duties that the transfer of the finished chunk to the device `n` further on fulfils. -/
def agDuty (n : Dev nD) : sProp 𝕄 :=
  iprop(dutyTok ER (dcell c 2 (n - 1)) 0 (n - 1) ∗ reached ER (dcell c 2 (n - 1)) 0 ∗ dutyTok ER (dcell (c + n) 3 c) 0 c)
/-- What that transfer spends beside the chunk. -/
def agGo (n : Dev nD) : sProp 𝕄 :=
  iprop(dutyTok ER (dcell c 2 (n - 1)) 0 (n - 1) ∗ reached ER (dcell c 2 (n - 1)) 0 ∗ dutyTok ER (dcell (c + n) 3 c) 0 c
    ∗ reached ER (dcell (c + n) 3 c) 0 ∗ ∃ X, own (F := F) (c + n) (sl gM c) X)

/-- What the barrier pays lets all the transfers go. -/
theorem bar_open :
    iprop((bigSep (Finset.univ.erase c) fun d => barPay (F := F) c d) ∗ eight (rsDuty (F := F) c) ∗ seven (agDuty (F := F) c))
      ⊢ iprop(eight (rsTok (F := F) c) ∗ seven (agGo (F := F) c)) := by
  rw [← eight_eq, ← eight_eq]
  have h : (bigSep (Finset.univ.erase c) fun d => barPay (F := F) c d)
      = iprop((bigSep Finset.univ fun k => if k = c then (iprop(emp) : sProp 𝕄) else iprop(reached ER (dcell k 1 c) 0 ∗ ∃ X, own (F := F) k (sl rM c) X))
        ∗ seven fun n => iprop(reached ER (dcell (c + n) 3 c) 0 ∗ ∃ X, own (F := F) (c + n) (sl gM c) X)) := by
    rw [← others_ite, ← others_fwd (F := F) c fun d => iprop(reached ER (dcell d 3 c) 0 ∗ ∃ X, own (F := F) d (sl gM c) X), ← bigSep_sep']
    refine bigSep_congr fun d _ => ?_
    unfold barPay
    refine BI.equiv_iff.mp ⟨?_, ?_⟩
    · show (_ : sProp 𝕄) ⊢ _
      iintro ⟨H1, H2, H3, H4⟩
      iframe
    · show (_ : sProp 𝕄) ⊢ _
      iintro ⟨⟨H1, H2⟩, H3, H4⟩
      iframe
  rw [h]
  have h2 : iprop((bigSep Finset.univ fun k => if k = c then (iprop(emp) : sProp 𝕄) else iprop(reached ER (dcell k 1 c) 0 ∗ ∃ X, own (F := F) k (sl rM c) X))
      ∗ bigSep Finset.univ (rsDuty (F := F) c)) ⊢ bigSep Finset.univ (rsTok (F := F) c) := by
    rw [← bigSep_sep']
    refine bigSep_mono fun k _ => ?_
    unfold rsDuty rsTok
    by_cases hk : k = c
    · rw [if_pos hk, if_pos hk, if_pos hk]
      show (_ : sProp 𝕄) ⊢ _
      iintro ⟨-, H⟩
      iexact H
    · rw [if_neg hk, if_neg hk, if_neg hk]
      show (_ : sProp 𝕄) ⊢ _
      iintro ⟨⟨H1, H2⟩, H3, H4, H5⟩
      iframe
  unfold seven agDuty agGo
  iintro ⟨⟨HA, ⟨a1, b1⟩, ⟨a2, b2⟩, ⟨a3, b3⟩, ⟨a4, b4⟩, ⟨a5, b5⟩, ⟨a6, b6⟩, a7, b7⟩, HB,
    ⟨c1, d1, e1⟩, ⟨c2, d2, e2⟩, ⟨c3, d3, e3⟩, ⟨c4, d4, e4⟩, ⟨c5, d5, e5⟩, ⟨c6, d6, e6⟩, c7, d7, e7⟩
  isplitl [HA HB]
  · iapply h2; isplitl [HA] <;> iassumption
  iframe

/-- What the wait for the chunk of the device `n` back spends. -/
def rvIn (n : Dev nD) : sProp 𝕄 := iprop(cred (tallyAt (dcell c 1 (c - n)) () N) ∗ atPos ER (dcell c 1 (c - n)) 0 ∅ 0)
/-- What is there after it. -/
def rvOut (n : Dev nD) : sProp 𝕄 := iprop(atPos ER (dcell c 1 (c - n)) 1 ∅ 0 ∗ ∃ X, own (F := F) c (sl rM (c - n)) X)
/-- What the wait for the finished chunk of the device `n` back spends. -/
def gvIn (n : Dev nD) : sProp 𝕄 := iprop(cred (tallyAt (dcell c 3 (c - n)) () N) ∗ atPos ER (dcell c 3 (c - n)) 0 ∅ 0)
/-- What is there after it. -/
def gvOut (n : Dev nD) : sProp 𝕄 := iprop(atPos ER (dcell c 3 (c - n)) 1 ∅ 0 ∗ ∃ X, own (F := F) c (sl gM (c - n)) X)
/-- Slot `k` of the partial result's chunks, whatever it holds. -/
def sSlot (k : Dev nD) : sProp 𝕄 := iprop(∃ X, own (F := F) c (sl sM k) X)

end Cert.KernelIdeal.Run

end
-- ==== Proof.PartsA.lean ====
/- The kernel's parts up to the sends of the partial result, one statement for each part. -/
module

public import proofs.«01_k».proof.Proof.Vals
public import proofs.«01_k».proof.Proof.Bundles

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Loads and stores of a slot at a computed offset -/

section Slot

variable {α : Type} {c : Dev nD}

/-- The end of a part. -/
theorem step_ret {a : α} {Q : α → sProp 𝕄} : Q a ⊢ WP (F := F) c (Pure.pure a) Q := by
  show Q a ⊢ WP (F := F) c (.ret a) Q
  unfold WP
  rw [wp_ret]
  iintro H
  imodintro
  iexact H

/-- A load of slot `j`. -/
theorem step_load_slot (M : Memref sig .tc .vmem S8x64x512 .bf16) (j : Dev nD) {off : Fin 3 → ℕ} (ho : off = ![j.val, 0, 0])
    {inb : ∀ a, off a + S1x64x512.size a ≤ S8x64x512.size a} {hl : M.view.LoadsAt (Rect.unit (s := S8x64x512) off S1x64x512.size inb).toLoadRect}
    {k : (S1x64x512.Idx → Elt F .bf16) → Prog (TpuEff nD τ sig (Elt F) Λ₀ .tc) α} {X : S1x64x512.Idx → Elt F .bf16} {Q : α → sProp 𝕄} :
    (own c (sl M j) X : sProp 𝕄)
      ⊢ iprop((own c (sl M j) X -∗ WP c (k X) Q) -∗ WP c (.op (.load M (Rect.unit (s := S8x64x512) off S1x64x512.size inb).toLoadRect hl) k) Q) := by
  subst ho
  exact step_load_slice (fun _ => rfl)

/-- A store of slot `j`, whatever it held. -/
theorem step_store_slot (M : Memref sig .tc .vmem S8x64x512 .bf16) (j : Dev nD) {off : Fin 3 → ℕ} (ho : off = ![j.val, 0, 0])
    {inb : ∀ a, off a + S1x64x512.size a ≤ S8x64x512.size a} {w : S1x64x512.Idx → Elt F .bf16}
    {hx : (M.access (Rect.unit (s := S8x64x512) off S1x64x512.size inb)).Stores Finset.univ}
    {hm : (Finset.univ : Finset (Rect.unit (s := S8x64x512) off S1x64x512.size inb).shape.Idx) = Finset.univ ∨ ∀ a, (Rect.unit (s := S8x64x512) off S1x64x512.size inb).stride a = 1}
    {k : PUnit → Prog (TpuEff nD τ sig (Elt F) Λ₀ .tc) α} {X : S1x64x512.Idx → Elt F .bf16} {Q : α → sProp 𝕄} :
    (own c (sl M j) X : sProp 𝕄)
      ⊢ iprop((own c (sl M j) w -∗ WP c (k ⟨⟩) Q) -∗ WP c (.op (.store M (Rect.unit (s := S8x64x512) off S1x64x512.size inb) w Finset.univ hx hm) k) Q) := by
  subst ho
  exact step_store_slice (fun _ => rfl)

end Slot

/-! ## When a transfer of the partial result is made -/

/-- Chunk 0 of the partial result is sent by every device but device 0. -/
theorem cond1_iff (c : Dev nD) : k0_cond1 c = 1#1 ↔ (0 : Dev nD) ≠ c := by revert c; decide
/-- Chunk 1 of the partial result is sent by every device but device 1. -/
theorem cond2_iff (c : Dev nD) : k0_cond2 c = 1#1 ↔ (1 : Dev nD) ≠ c := by revert c; decide
/-- Chunk 2 of the partial result is sent by every device but device 2. -/
theorem cond3_iff (c : Dev nD) : k0_cond3 c = 1#1 ↔ (2 : Dev nD) ≠ c := by revert c; decide
/-- Chunk 3 of the partial result is sent by every device but device 3. -/
theorem cond4_iff (c : Dev nD) : k0_cond4 c = 1#1 ↔ (3 : Dev nD) ≠ c := by revert c; decide
/-- Chunk 4 of the partial result is sent by every device but device 4. -/
theorem cond5_iff (c : Dev nD) : k0_cond5 c = 1#1 ↔ (4 : Dev nD) ≠ c := by revert c; decide
/-- Chunk 5 of the partial result is sent by every device but device 5. -/
theorem cond6_iff (c : Dev nD) : k0_cond6 c = 1#1 ↔ (5 : Dev nD) ≠ c := by revert c; decide
/-- Chunk 6 of the partial result is sent by every device but device 6. -/
theorem cond7_iff (c : Dev nD) : k0_cond7 c = 1#1 ↔ (6 : Dev nD) ≠ c := by revert c; decide
/-- Chunk 7 of the partial result is sent by every device but device 7. -/
theorem cond8_iff (c : Dev nD) : k0_cond8 c = 1#1 ↔ (7 : Dev nD) ≠ c := by revert c; decide
/-- The sending of chunk 0 is waited for on every device but device 0. -/
theorem cond9_iff (c : Dev nD) : k0_cond9 c = 1#1 ↔ (0 : Dev nD) ≠ c := by revert c; decide
/-- The sending of chunk 1 is waited for on every device but device 1. -/
theorem cond10_iff (c : Dev nD) : k0_cond10 c = 1#1 ↔ (1 : Dev nD) ≠ c := by revert c; decide
/-- The sending of chunk 2 is waited for on every device but device 2. -/
theorem cond11_iff (c : Dev nD) : k0_cond11 c = 1#1 ↔ (2 : Dev nD) ≠ c := by revert c; decide
/-- The sending of chunk 3 is waited for on every device but device 3. -/
theorem cond12_iff (c : Dev nD) : k0_cond12 c = 1#1 ↔ (3 : Dev nD) ≠ c := by revert c; decide
/-- The sending of chunk 4 is waited for on every device but device 4. -/
theorem cond13_iff (c : Dev nD) : k0_cond13 c = 1#1 ↔ (4 : Dev nD) ≠ c := by revert c; decide
/-- The sending of chunk 5 is waited for on every device but device 5. -/
theorem cond14_iff (c : Dev nD) : k0_cond14 c = 1#1 ↔ (5 : Dev nD) ≠ c := by revert c; decide
/-- The sending of chunk 6 is waited for on every device but device 6. -/
theorem cond15_iff (c : Dev nD) : k0_cond15 c = 1#1 ↔ (6 : Dev nD) ≠ c := by revert c; decide
/-- The sending of chunk 7 is waited for on every device but device 7. -/
theorem cond16_iff (c : Dev nD) : k0_cond16 c = 1#1 ↔ (7 : Dev nD) ≠ c := by revert c; decide

section Parts

variable (I : Dev nD → Ins F) (K : GSem nD τ sig → ℕ) (c : Dev nD)
variable (arg0 : Memref sig .tc .vmem S512x512 .f32) (harg0 : arg0.IsWhole) (arg1 : Memref sig .tc .vmem S512x256 .f32) (harg1 : arg1.IsWhole)
  (arg2 : Memref sig .tc .vmem S8x256x64 .f32) (harg2 : arg2.IsWhole) (arg3 : Memref sig .tc .vmem S8x256x64 .f32) (harg3 : arg3.IsWhole)
  (arg4 : Memref sig .tc .vmem S256x512 .f32) (harg4 : arg4.IsWhole) (arg5 : Memref sig .tc .vmem S512x512 .f32) (harg5 : arg5.IsWhole)

/-- The invariants of the cells, with the contents of this exchange. -/
abbrev recs' : sProp 𝕄 := recs (P I) (Fb I) K

/-- The five input windows. -/
def ins (J : Ins F) : sProp 𝕄 :=
  iprop(own c arg0 J.x ∗ own c arg1 J.wq ∗ own c arg2 J.kh ∗ own c arg3 J.vh ∗ own c arg4 J.wo)

/-- The first part: the devices one to five further on are signalled. -/
theorem part1 (Q : (Σ' (_ : Dev nD) (_ : BitVec 32) (_ : Sems sig S_) (_ : BitVec 32), BitVec 32) → sProp 𝕄) :
    iprop(recs' I K ∗ ow c (owed c [1, 2, 3, 4, 5, 6, 7] [0, 1, 2, 3, 4, 5, 6, 7] [1, 2, 3, 4, 5, 6, 7])
        ∗ sigTok c 1 ∗ sigTok c 2 ∗ sigTok c 3 ∗ sigTok c 4 ∗ sigTok c 5)
      ⊢ iprop((∀ v2 v24, ow c (owed c [6, 7] [0, 1, 2, 3, 4, 5, 6, 7] [1, 2, 3, 4, 5, 6, 7]) -∗ Q ⟨c, v2, SemArray.scalar (sig.barrier 0 rfl), v24, 8#32⟩)
        -∗ WP c (k0_part1 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7) Q) := by
  rw [k0_part1_eq_skeleton]
  unfold k0_part1_skel semSignalWord
  simp only [Prog.lift, Prog.bind_op, Prog.bind_ret, Prog.bind_assoc, wp_deviceId]
  iintro ⟨#HI, HO, H1, H2, H3, H4, H5⟩ Hk
  iapply (step_signal (P I) (Fb I) K c 1 (by decide) (k0_dev1_eq c) [2, 3, 4, 5, 6, 7] [0, 1, 2, 3, 4, 5, 6, 7] [1, 2, 3, 4, 5, 6, 7]) $$ [HO H1]
  · isplitr; · iexact HI
    isplitl [HO] <;> iassumption
  iintro HO
  iapply (step_signal (P I) (Fb I) K c 2 (by decide) (k0_dev2_eq c) [3, 4, 5, 6, 7] [0, 1, 2, 3, 4, 5, 6, 7] [1, 2, 3, 4, 5, 6, 7]) $$ [HO H2]
  · isplitr; · iexact HI
    isplitl [HO] <;> iassumption
  iintro HO
  iapply (step_signal (P I) (Fb I) K c 3 (by decide) (k0_dev3_eq c) [4, 5, 6, 7] [0, 1, 2, 3, 4, 5, 6, 7] [1, 2, 3, 4, 5, 6, 7]) $$ [HO H3]
  · isplitr; · iexact HI
    isplitl [HO] <;> iassumption
  iintro HO
  iapply (step_signal (P I) (Fb I) K c 4 (by decide) (k0_dev4_eq c) [5, 6, 7] [0, 1, 2, 3, 4, 5, 6, 7] [1, 2, 3, 4, 5, 6, 7]) $$ [HO H4]
  · isplitr; · iexact HI
    isplitl [HO] <;> iassumption
  iintro HO
  iapply (step_signal (P I) (Fb I) K c 5 (by decide) (k0_dev5_eq c) [6, 7] [0, 1, 2, 3, 4, 5, 6, 7] [1, 2, 3, 4, 5, 6, 7]) $$ [HO H5]
  · isplitr; · iexact HI
    isplitl [HO] <;> iassumption
  iintro HO
  iapply step_ret
  iapply Hk
  iexact HO

set_option backward.isDefEq.respectTransparency false in
/-- The devices six and seven further on are signalled; then the output weights, the queries, the mask and the scores of pair 0 are computed. -/
theorem part2 (v2 v24 c8 : BitVec 32) (Q : (Σ' (_ : FVec F S256x512 .bf16) (_ : FVec F S512x256 .f32) (_ : IVec S256x256 1) (_ : FVec F S256x256 .f32), F .f32) → sProp 𝕄) :
    iprop(recs' I K ∗ ow c (owed c [6, 7] [0, 1, 2, 3, 4, 5, 6, 7] [1, 2, 3, 4, 5, 6, 7]) ∗ sigTok c 6 ∗ sigTok c 7 ∗ ins c arg0 arg1 arg2 arg3 arg4 (I c))
      ⊢ iprop((ow c (owed c [] [0, 1, 2, 3, 4, 5, 6, 7] [1, 2, 3, 4, 5, 6, 7]) ∗ ins c arg0 arg1 arg2 arg3 arg4 (I c)
            -∗ Q ⟨(I c).wob, (I c).qs, k0_pay3, (I c).s0, Scalar.ofBits .f32 0x3E000000#32⟩)
        -∗ WP c (k0_part2 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (SemArray.scalar (sig.barrier 0 rfl)) v24 c8) Q) := by
  rw [k0_part2_eq_skeleton]
  unfold k0_part2_skel semSignalWord ins
  simp only [Prog.lift, Prog.bind_op, Prog.bind_ret, Prog.bind_assoc]
  iintro ⟨#HI, HO, H6, H7, Hx, Hq, Hkh, Hv, Hw⟩ Hk
  iapply (step_signal (P I) (Fb I) K c 6 (by decide) (k0_dev6_eq c) [7] [0, 1, 2, 3, 4, 5, 6, 7] [1, 2, 3, 4, 5, 6, 7]) $$ [HO H6]
  · isplitr; · iexact HI
    isplitl [HO] <;> iassumption
  iintro HO
  iapply (step_signal (P I) (Fb I) K c 7 (by decide) (k0_dev7_eq c) [] [0, 1, 2, 3, 4, 5, 6, 7] [1, 2, 3, 4, 5, 6, 7]) $$ [HO H7]
  · isplitr; · iexact HI
    isplitl [HO] <;> iassumption
  iintro HO
  iapply step_load $$ Hx; iintro Hx
  iapply step_load $$ Hq; iintro Hq
  iapply step_load $$ Hw; iintro Hw
  iapply step_load $$ Hkh; iintro Hkh
  ispecialize Hk $$ [HO Hx Hq Hkh Hv Hw]
  · isplitl [HO]; · iexact HO
    isplitl [Hx]; · iexact Hx
    isplitl [Hq]; · iexact Hq
    isplitl [Hkh]; · iexact Hkh
    isplitl [Hv] <;> iassumption
  iapply (step_ret (Q := Q)) $$ Hk

/-- The attention of pair 0, and the weights and the values of pair 1, are computed. -/
theorem part3 (Q : (Σ' (_ : FVec F S256x64 .f32) (_ : FVec F S256x256 .bf16) (_ : FVec F S256x64 .bf16), FVec F S256x64 .f32) → sProp 𝕄) :
    ins c arg0 arg1 arg2 arg3 arg4 (I c)
      ⊢ iprop((ins c arg0 arg1 arg2 arg3 arg4 (I c) -∗ Q ⟨(I c).h0, (I c).w1, (I c).u1, constant S256x64 .f32 0x00000000#32⟩)
        -∗ WP c (k0_part3 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          (I c).qs k0_pay3 (I c).s0 (Scalar.ofBits .f32 0x3E000000#32)) Q) := by
  rw [k0_part3_eq_skeleton]
  unfold k0_part3_skel ins
  simp only [Prog.lift, Prog.bind_op, Prog.bind_ret, Prog.bind_assoc]
  iintro ⟨Hx, Hq, Hkh, Hv, Hw⟩ Hk
  iapply step_load $$ Hv; iintro Hv
  iapply step_load $$ Hkh; iintro Hkh
  iapply step_load $$ Hv; iintro Hv
  ispecialize Hk $$ [Hx Hq Hkh Hv Hw]
  · isplitl [Hx]; · iexact Hx
    isplitl [Hq]; · iexact Hq
    isplitl [Hkh]; · iexact Hkh
    isplitl [Hv]; · iexact Hv
    iexact Hw
  iapply (step_ret (Q := Q)) $$ Hk

/-- The attention of pairs 1 and 2, and the exponentials of pair 3, are computed. -/
theorem part4 (Q : (Σ' (_ : FVec F S256x64 .f32) (_ : FVec F S256x64 .f32), FVec F S256x256 .f32) → sProp 𝕄) :
    ins c arg0 arg1 arg2 arg3 arg4 (I c)
      ⊢ iprop((ins c arg0 arg1 arg2 arg3 arg4 (I c) -∗ Q ⟨(I c).h1, (I c).h2, (I c).s3⟩)
        -∗ WP c (k0_part4 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          (I c).qs k0_pay3 (I c).w1 (I c).u1 (constant S256x64 .f32 0x00000000#32)) Q) := by
  rw [k0_part4_eq_skeleton]
  unfold k0_part4_skel ins
  simp only [Prog.lift, Prog.bind_op, Prog.bind_ret, Prog.bind_assoc]
  iintro ⟨Hx, Hq, Hkh, Hv, Hw⟩ Hk
  iapply step_load $$ Hkh; iintro Hkh
  iapply step_load $$ Hv; iintro Hv
  iapply step_load $$ Hkh; iintro Hkh
  ispecialize Hk $$ [Hx Hq Hkh Hv Hw]
  · isplitl [Hx]; · iexact Hx
    isplitl [Hq]; · iexact Hq
    isplitl [Hkh]; · iexact Hkh
    isplitl [Hv]; · iexact Hv
    iexact Hw
  iapply (step_ret (Q := Q)) $$ Hk

/-- The partial result's first batch entry is stored; the barrier is waited for; chunks 0 and 1 are sent and chunk 2 is computed. -/
theorem part5 (v2 : BitVec 32) (G : S512x512.Idx → Elt F .f32) (Q : (Σ' (_ : FVec F S256x512 .f32) (_ : FVec F S64x512 .bf16), Vec F S1x64x512 .bf16) → sProp 𝕄) :
    iprop(recs' I K ∗ levAts L lv ∗ ow c (owed c [] [0, 1, 2, 3, 4, 5, 6, 7] [1, 2, 3, 4, 5, 6, 7]) ∗ ins c arg0 arg1 arg2 arg3 arg4 (I c) ∗ own c arg5 G
        ∗ cred (tallyAt (bcell c) () 7) ∗ atPos ER (bcell c) 0 ∅ 0 ∗ eight (rsDuty (F := F) c) ∗ seven (agDuty (F := F) c)
        ∗ sSlot c 0 ∗ sSlot c 1 ∗ sSlot c 2)
      ⊢ iprop((∀ v172, ow c (owed c [] [2, 3, 4, 5, 6, 7] [1, 2, 3, 4, 5, 6, 7]) ∗ ins c arg0 arg1 arg2 arg3 arg4 (I c) ∗ own c arg5 (Ins.rTop.overlay G (I c).top)
            ∗ atPos ER (bcell c) 1 ∅ 0 ∗ rsOut c 0 ∗ rsOut c 1 ∗ sSlot c 2 ∗ rsTok c 2 ∗ rsTok c 3 ∗ rsTok c 4 ∗ rsTok c 5 ∗ rsTok c 6 ∗ rsTok c 7
            ∗ seven (agGo (F := F) c)
            -∗ Q ⟨(I c).top, (I c).t2, v172⟩)
        -∗ WP c (k0_part5 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (SemArray.scalar (sig.barrier 0 rfl)) (I c).wob (I c).h0 (I c).h1 (I c).h2 (I c).s3) Q) := by
  rw [k0_part5_eq_skeleton]
  unfold k0_part5_skel semWaitWord ins sSlot
  simp only [Prog.lift, Prog.bind_op, Prog.bind_ret, Prog.bind_assoc]
  iintro ⟨#HI, #Hlev, HO, ⟨Hx, Hq, Hkh, Hv, Hw⟩, Ho, Hc, Hat, Hrd, Had, ⟨%X0, Hs0⟩, ⟨%X1, Hs1⟩, ⟨%X2, Hs2⟩⟩ Hk
  iapply step_load $$ Hv; iintro Hv
  iapply step_load $$ Ho; iintro Ho
  iapply (step_store (fun _ => rfl)) $$ Ho; iintro Ho
  iapply (step_bar (P I) (Fb I) K c [0, 1, 2, 3, 4, 5, 6, 7] [1, 2, 3, 4, 5, 6, 7]) $$ [HO Hc Hat]
  · isplitr; · iexact HI
    isplitr; · iexact Hlev
    isplitl [HO]; · iexact HO
    isplitl [Hc] <;> iassumption
  iintro ⟨HO, Hat, Hpay⟩
  ihave Htok := (bar_open (F := F) c) $$ [Hpay Hrd Had]
  · isplitl [Hpay]; · iexact Hpay
    isplitl [Hrd] <;> iassumption
  unfold eight
  icases Htok with ⟨⟨Ht0, Ht1, Ht2, Ht3, Ht4, Ht5, Ht6, Ht7⟩, Hag⟩
  iapply (step_load_slot sM 0 rfl) $$ Hs0; iintro Hs0
  iapply (step_store_slot sM 0 rfl) $$ Hs0; iintro Hs0
  iapply (step_rs_send (P I) (Fb I) K c 0 (cond1_iff c) k0_dev8_eq (oS := ![0]) rfl (k0_off1_eq c) (oX := ![0, 0, 0]) rfl (k0_off2_eq c) [1, 2, 3, 4, 5, 6, 7] [1, 2, 3, 4, 5, 6, 7]) $$ [HO Hs0 Ht0]
  · isplitr; · iexact HI
    isplitl [HO]; · iexact HO
    isplitl [Hs0]; · iexact Hs0
    iexact Ht0
  iintro ⟨HO, Ht0⟩
  iapply (step_load_slot sM 1 rfl) $$ Hs1; iintro Hs1
  iapply (step_store_slot sM 1 rfl) $$ Hs1; iintro Hs1
  iapply (step_rs_send (P I) (Fb I) K c 1 (cond2_iff c) k0_dev9_eq (oS := ![1]) rfl (k0_off3_eq c) (oX := ![1, 0, 0]) rfl (k0_off4_eq c) [2, 3, 4, 5, 6, 7] [1, 2, 3, 4, 5, 6, 7]) $$ [HO Hs1 Ht1]
  · isplitr; · iexact HI
    isplitl [HO]; · iexact HO
    isplitl [Hs1]; · iexact Hs1
    iexact Ht1
  iintro ⟨HO, Ht1⟩
  iapply (step_load_slot sM 2 rfl) $$ Hs2; iintro Hs2
  ispecialize Hk $$ %X2 [HO Hx Hq Hkh Hv Hw Ho Hat Ht0 Ht1 Hs2 Ht2 Ht3 Ht4 Ht5 Ht6 Ht7 Hag]
  · isplitl [HO]; · iexact HO
    isplitl [Hx Hq Hkh Hv Hw]
    · isplitl [Hx]; · iexact Hx
      isplitl [Hq]; · iexact Hq
      isplitl [Hkh]; · iexact Hkh
      isplitl [Hv] <;> iassumption
    isplitl [Ho]; · iexact Ho
    isplitl [Hat]; · iexact Hat
    isplitl [Ht0]; · iexact Ht0
    isplitl [Ht1]; · iexact Ht1
    isplitl [Hs2]; · iexists X2; iexact Hs2
    iframe
  iapply (step_ret (Q := Q)) $$ Hk

/-- Chunks 2 and 3 are sent, and the attention of pair 4 is computed. -/
theorem part6 (v2 : BitVec 32) (v172 : Vec F S1x64x512 .bf16) (Q : FVec F S256x64 .f32 → sProp 𝕄) :
    iprop(recs' I K ∗ ow c (owed c [] [2, 3, 4, 5, 6, 7] [1, 2, 3, 4, 5, 6, 7]) ∗ ins c arg0 arg1 arg2 arg3 arg4 (I c) ∗ sSlot c 2 ∗ sSlot c 3 ∗ rsTok c 2 ∗ rsTok c 3)
      ⊢ iprop((ow c (owed c [] [4, 5, 6, 7] [1, 2, 3, 4, 5, 6, 7]) ∗ ins c arg0 arg1 arg2 arg3 arg4 (I c) ∗ rsOut c 2 ∗ rsOut c 3 -∗ Q (I c).h4)
        -∗ WP c (k0_part6 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (I c).qs k0_pay3 (I c).top (I c).t2 v172) Q) := by
  rw [k0_part6_eq_skeleton]
  unfold k0_part6_skel ins sSlot
  simp only [Prog.lift, Prog.bind_op, Prog.bind_ret, Prog.bind_assoc]
  iintro ⟨#HI, HO, ⟨Hx, Hq, Hkh, Hv, Hw⟩, ⟨%X2, Hs2⟩, ⟨%X3, Hs3⟩, Ht2, Ht3⟩ Hk
  iapply (step_store_slot sM 2 rfl) $$ Hs2; iintro Hs2
  iapply (step_rs_send (P I) (Fb I) K c 2 (cond3_iff c) k0_dev10_eq (oS := ![2]) rfl (k0_off5_eq c) (oX := ![2, 0, 0]) rfl (k0_off6_eq c) [3, 4, 5, 6, 7] [1, 2, 3, 4, 5, 6, 7]) $$ [HO Hs2 Ht2]
  · isplitr; · iexact HI
    isplitl [HO]; · iexact HO
    isplitl [Hs2]; · iexact Hs2
    iexact Ht2
  iintro ⟨HO, Ht2⟩
  iapply (step_load_slot sM 3 rfl) $$ Hs3; iintro Hs3
  iapply (step_store_slot sM 3 rfl) $$ Hs3; iintro Hs3
  iapply (step_rs_send (P I) (Fb I) K c 3 (cond4_iff c) k0_dev11_eq (oS := ![3]) rfl (k0_off7_eq c) (oX := ![3, 0, 0]) rfl (k0_off8_eq c) [4, 5, 6, 7] [1, 2, 3, 4, 5, 6, 7]) $$ [HO Hs3 Ht3]
  · isplitr; · iexact HI
    isplitl [HO]; · iexact HO
    isplitl [Hs3]; · iexact Hs3
    iexact Ht3
  iintro ⟨HO, Ht3⟩
  iapply step_load $$ Hkh; iintro Hkh
  iapply step_load $$ Hv; iintro Hv
  ispecialize Hk $$ [HO Hx Hq Hkh Hv Hw Ht2 Ht3]
  · isplitl [HO]; · iexact HO
    isplitl [Hx Hq Hkh Hv Hw]
    · isplitl [Hx]; · iexact Hx
      isplitl [Hq]; · iexact Hq
      isplitl [Hkh]; · iexact Hkh
      isplitl [Hv] <;> iassumption
    isplitl [Ht2] <;> iassumption
  iapply (step_ret (Q := Q)) $$ Hk

/-- The attention of pair 5, and the exponentials of pair 6 with the sums of their rows, are computed. -/
theorem part7 (Q : (Σ' (_ : FVec F S256x64 .f32) (_ : FVec F S256x256 .f32), FVec F S256 .f32) → sProp 𝕄) :
    ins c arg0 arg1 arg2 arg3 arg4 (I c)
      ⊢ iprop((ins c arg0 arg1 arg2 arg3 arg4 (I c) -∗ Q ⟨(I c).h5, (I c).s6, (I c).m6⟩)
        -∗ WP c (k0_part7 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          (I c).qs k0_pay3) Q) := by
  rw [k0_part7_eq_skeleton]
  unfold k0_part7_skel ins
  simp only [Prog.lift, Prog.bind_op, Prog.bind_ret, Prog.bind_assoc]
  iintro ⟨Hx, Hq, Hkh, Hv, Hw⟩ Hk
  iapply step_load $$ Hkh; iintro Hkh
  iapply step_load $$ Hv; iintro Hv
  iapply step_load $$ Hkh; iintro Hkh
  ispecialize Hk $$ [Hx Hq Hkh Hv Hw]
  · isplitl [Hx]; · iexact Hx
    isplitl [Hq]; · iexact Hq
    isplitl [Hkh]; · iexact Hkh
    isplitl [Hv] <;> iassumption
  iapply (step_ret (Q := Q)) $$ Hk

/-- The partial result's second batch entry is stored, and chunk 4 is computed. -/
theorem part8 (G : S512x512.Idx → Elt F .f32) (Q : (Σ' (_ : FVec F S256x512 .f32), FVec F S64x512 .bf16) → sProp 𝕄) :
    iprop(ins c arg0 arg1 arg2 arg3 arg4 (I c) ∗ own c arg5 G)
      ⊢ iprop((ins c arg0 arg1 arg2 arg3 arg4 (I c) ∗ own c arg5 (Ins.rBot.overlay G (I c).bot) -∗ Q ⟨(I c).bot, (I c).b4⟩)
        -∗ WP c (k0_part8 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          (I c).wob (I c).qs k0_pay3 (I c).h4 (I c).h5 (I c).s6 (I c).m6) Q) := by
  rw [k0_part8_eq_skeleton]
  unfold k0_part8_skel ins
  simp only [Prog.lift, Prog.bind_op, Prog.bind_ret, Prog.bind_assoc]
  iintro ⟨⟨Hx, Hq, Hkh, Hv, Hw⟩, Ho⟩ Hk
  iapply step_load $$ Hv; iintro Hv
  iapply step_load $$ Hkh; iintro Hkh
  iapply step_load $$ Hv; iintro Hv
  iapply step_load $$ Ho; iintro Ho
  iapply (step_store (fun _ => rfl)) $$ Ho; iintro Ho
  ispecialize Hk $$ [Hx Hq Hkh Hv Hw Ho]
  · isplitr [Ho]
    · isplitl [Hx]; · iexact Hx
      isplitl [Hq]; · iexact Hq
      isplitl [Hkh]; · iexact Hkh
      isplitl [Hv] <;> iassumption
    iexact Ho
  iapply (step_ret (Q := Q)) $$ Hk

/-- Chunks 4 to 7 are sent. -/
theorem part9 (v2 : BitVec 32) (Q : PUnit → sProp 𝕄) :
    iprop(recs' I K ∗ ow c (owed c [] [4, 5, 6, 7] [1, 2, 3, 4, 5, 6, 7]) ∗ sSlot c 4 ∗ sSlot c 5 ∗ sSlot c 6 ∗ sSlot c 7
        ∗ rsTok c 4 ∗ rsTok c 5 ∗ rsTok c 6 ∗ rsTok c 7)
      ⊢ iprop((ow c (owed c [] [] [1, 2, 3, 4, 5, 6, 7]) ∗ rsOut c 4 ∗ rsOut c 5 ∗ rsOut c 6 ∗ rsOut c 7 -∗ Q ⟨⟩)
        -∗ WP c (k0_part9 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (I c).bot (I c).b4) Q) := by
  rw [k0_part9_eq_skeleton]
  unfold k0_part9_skel sSlot
  simp only [Prog.lift, Prog.bind_op, Prog.bind_ret, Prog.bind_assoc]
  iintro ⟨#HI, HO, ⟨%X4, Hs4⟩, ⟨%X5, Hs5⟩, ⟨%X6, Hs6⟩, ⟨%X7, Hs7⟩, Ht4, Ht5, Ht6, Ht7⟩ Hk
  iapply (step_load_slot sM 4 rfl) $$ Hs4; iintro Hs4
  iapply (step_store_slot sM 4 rfl) $$ Hs4; iintro Hs4
  iapply (step_rs_send (P I) (Fb I) K c 4 (cond5_iff c) k0_dev12_eq (oS := ![4]) rfl (k0_off9_eq c) (oX := ![4, 0, 0]) rfl (k0_off10_eq c) [5, 6, 7] [1, 2, 3, 4, 5, 6, 7]) $$ [HO Hs4 Ht4]
  · isplitr; · iexact HI
    isplitl [HO]; · iexact HO
    isplitl [Hs4]; · iexact Hs4
    iexact Ht4
  iintro ⟨HO, Ht4⟩
  iapply (step_load_slot sM 5 rfl) $$ Hs5; iintro Hs5
  iapply (step_store_slot sM 5 rfl) $$ Hs5; iintro Hs5
  iapply (step_rs_send (P I) (Fb I) K c 5 (cond6_iff c) k0_dev13_eq (oS := ![5]) rfl (k0_off11_eq c) (oX := ![5, 0, 0]) rfl (k0_off12_eq c) [6, 7] [1, 2, 3, 4, 5, 6, 7]) $$ [HO Hs5 Ht5]
  · isplitr; · iexact HI
    isplitl [HO]; · iexact HO
    isplitl [Hs5]; · iexact Hs5
    iexact Ht5
  iintro ⟨HO, Ht5⟩
  iapply (step_load_slot sM 6 rfl) $$ Hs6; iintro Hs6
  iapply (step_store_slot sM 6 rfl) $$ Hs6; iintro Hs6
  iapply (step_rs_send (P I) (Fb I) K c 6 (cond7_iff c) k0_dev14_eq (oS := ![6]) rfl (k0_off13_eq c) (oX := ![6, 0, 0]) rfl (k0_off14_eq c) [7] [1, 2, 3, 4, 5, 6, 7]) $$ [HO Hs6 Ht6]
  · isplitr; · iexact HI
    isplitl [HO]; · iexact HO
    isplitl [Hs6]; · iexact Hs6
    iexact Ht6
  iintro ⟨HO, Ht6⟩
  iapply (step_load_slot sM 7 rfl) $$ Hs7; iintro Hs7
  iapply (step_store_slot sM 7 rfl) $$ Hs7; iintro Hs7
  iapply (step_rs_send (P I) (Fb I) K c 7 (cond8_iff c) k0_dev15_eq (oS := ![7]) rfl (k0_off15_eq c) (oX := ![7, 0, 0]) rfl (k0_off16_eq c) [] [1, 2, 3, 4, 5, 6, 7]) $$ [HO Hs7 Ht7]
  · isplitr; · iexact HI
    isplitl [HO]; · iexact HO
    isplitl [Hs7]; · iexact Hs7
    iexact Ht7
  iintro ⟨HO, Ht7⟩
  ispecialize Hk $$ [HO Ht4 Ht5 Ht6 Ht7]
  · isplitl [HO]; · iexact HO
    iframe
  iapply (step_ret (Q := Q)) $$ Hk

end Parts

end Cert.KernelIdeal.Run

end
-- ==== Proof.PartsB.lean ====
/- The kernel's parts from the sum of the chunks on, one statement for each part. -/
module

public import proofs.«01_k».proof.Proof.PartsA

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Offsets of the chunk of the device `n` back -/

/-- The receive semaphore for the device `n` back is at that device's number. -/
theorem off18_at : ∀ c n : Dev nD, n ≠ 0 → k0_off18 c (BitVec.ofNat 32 n.val) = ![(c - n).val] := by decide +kernel
/-- The slot for the device `n` back begins at that device's number, where its arrival is awaited. -/
theorem off19_at : ∀ c n : Dev nD, n ≠ 0 → k0_off19 c (BitVec.ofNat 32 n.val) = ![(c - n).val, 0, 0] := by decide +kernel
/-- The slot for the device `n` back begins at that device's number, where it is read. -/
theorem off20_at : ∀ c n : Dev nD, n ≠ 0 → k0_off20 c (BitVec.ofNat 32 n.val) = ![(c - n).val, 0, 0] := by decide +kernel

/-! ## The finished chunk's shares -/

/-- A store of a whole buffer through its whole rectangle leaves what was stored. -/
theorem overlay_full {s : Shape} {α : Type} {o : Fin s.rank → ℕ} (ho : ∀ a, o a = 0) (inb : ∀ a, o a + s.size a ≤ s.size a) (X w : s.Idx → α) :
    (Rect.unit (s := s) o s.size inb).overlay X w = w := by
  funext i
  have e : (Rect.unit (s := s) o s.size inb).emb i = i := by
    funext a
    refine Fin.ext ?_
    show o a + 1 * (i a).val = _
    rw [ho a, Nat.zero_add, Nat.one_mul]
  have := Rect.overlay_emb (Rect.unit (s := s) o s.size inb) X w i
  rwa [e] at this

/-- A share of the finished chunk. -/
def fPart (c i : Dev nD) (X : S64x512.Idx → Elt F .bf16) : sProp 𝕄 := owns (c : Thread nD τ) fM (ShareLeaves.leaf 3 fullShare i) X

/-- The finished chunk is its eight shares. -/
theorem fM_shares (c : Dev nD) (X : S64x512.Idx → Elt F .bf16) : own c fM X = eight fun i => fPart c i X := by
  rw [← eight_eq]
  unfold own fPart
  simp only [owns_whole]
  exact ShareLeaves.pointsTo_leaves _ _ 3 _

/-- The finished chunk, stored whole, is its eight shares. -/
theorem fM_stored (c : Dev nD) (inb : ∀ a, (![0, 0] : Fin 2 → ℕ) a + S64x512.size a ≤ S64x512.size a) (X w : S64x512.Idx → Elt F .bf16) :
    own c fM ((Rect.unit (s := S64x512) ![0, 0] S64x512.size inb).overlay X w) ⊢ eight fun i => fPart c i w :=
  .of_eq ((congrArg (own c fM) (overlay_full (s := S64x512) (by decide) inb X w)).trans (fM_shares c w))

/-- What the transfer to the device `n` further on spends, from the share it reads. -/
theorem agTok_of (X : Dev nD → S64x512.Idx → Elt F .bf16) (c n i : Dev nD) (h : i = n - 1) :
    iprop(fPart c i (X c) ∗ agGo (F := F) c n) ⊢ agTok X c n i := by
  subst h
  exact .rfl

section Parts

variable (I : Dev nD → Ins F) (K : GSem nD τ sig → ℕ) (c : Dev nD)

section Steps

variable {α : Type}

/-- The wait for the chunk of the device `n` back and its load. -/
theorem step_rv (n : Dev nD) (hn : n ≠ 0) {b : BitVec 32} (hb : b = BitVec.ofNat 32 n.val) (gs : List (Dev nD))
    {iS : ∀ i, k0_off18 c b i + S1.size i ≤ S8.size i} {i₁ i₂ : ∀ a, k0_off19 c b a + S1x64x512.size a ≤ S8x64x512.size a} {s₁ s₂}
    {i₃ : ∀ a, k0_off20 c b a + S1x64x512.size a ≤ S8x64x512.size a}
    {hl : rM.view.LoadsAt (Rect.unit (s := S8x64x512) (k0_off20 c b) S1x64x512.size i₃).toLoadRect} {w₁ w₂}
    {k : (S1x64x512.Idx → Elt F .bf16) → Prog (TpuEff nD τ sig (Elt F) Λ₀ .tc) α} {Q : α → sProp 𝕄} :
    iprop(recs' I K ∗ levAts L lv ∗ ow c (owed c [] [] gs) ∗ rvIn c n)
      ⊢ iprop((ow c (owed c [] [] gs) ∗ rvOut c n -∗ WP c (k (P I (c - n) c)) Q)
        -∗ WP c (.op (.waitDma2 (semAt cc0_scratch5 (k0_off18 c b) iS) (sqAt rM (k0_off19 c b) i₁ s₁) (sqAt rM (k0_off19 c b) i₂ s₂) w₁ w₂) fun _ =>
            .op (.load rM (Rect.unit (s := S8x64x512) (k0_off20 c b) S1x64x512.size i₃).toLoadRect hl) k) Q) := by
  subst hb
  unfold rvIn rvOut
  iintro ⟨#HI, #Hlev, HO, Hc, Hat⟩ Hk
  iapply (step_rs_recv (P I) (Fb I) K c (c - n) (sub_ne c n hn) (off18_at c n hn) gs (dst := sqAt rM (k0_off19 c (BitVec.ofNat 32 n.val)) i₂ s₂) rfl) $$ [HO Hc Hat]
  · isplitr; · iexact HI
    isplitr; · iexact Hlev
    isplitl [HO]; · iexact HO
    isplitl [Hc] <;> iassumption
  iintro ⟨HO, Hat, Hs⟩
  iapply (step_load_slot rM (c - n) (off20_at c n hn)) $$ Hs
  iintro Hs
  iapply Hk
  isplitl [HO]; · iexact HO
  isplitl [Hat]; · iexact Hat
  iexists (P I (c - n) c)
  iexact Hs

/-- The wait for the finished chunk of the device `n` back and its load. -/
theorem step_gv (n : Dev nD) (hn : n ≠ 0) {b : BitVec 32} (hb : b = BitVec.ofNat 32 n.val)
    {iS : ∀ i, k0_off18 c b i + S1.size i ≤ S8.size i} {i₁ i₂ : ∀ a, k0_off19 c b a + S1x64x512.size a ≤ S8x64x512.size a} {s₁ s₂}
    {i₃ : ∀ a, k0_off20 c b a + S1x64x512.size a ≤ S8x64x512.size a}
    {hl : gM.view.LoadsAt (Rect.unit (s := S8x64x512) (k0_off20 c b) S1x64x512.size i₃).toLoadRect} {w₁ w₂}
    {k : (S1x64x512.Idx → Elt F .bf16) → Prog (TpuEff nD τ sig (Elt F) Λ₀ .tc) α} {Q : α → sProp 𝕄} :
    iprop(recs' I K ∗ levAts L lv ∗ ow c 0 ∗ gvIn c n)
      ⊢ iprop((ow c 0 ∗ gvOut c n -∗ WP c (k (add1 (Fb I (c - n)))) Q)
        -∗ WP c (.op (.waitDma2 (semAt cc0_scratch7 (k0_off18 c b) iS) (sqAt gM (k0_off19 c b) i₁ s₁) (sqAt gM (k0_off19 c b) i₂ s₂) w₁ w₂) fun _ =>
            .op (.load gM (Rect.unit (s := S8x64x512) (k0_off20 c b) S1x64x512.size i₃).toLoadRect hl) k) Q) := by
  subst hb
  unfold gvIn gvOut
  iintro ⟨#HI, #Hlev, HO, Hc, Hat⟩ Hk
  iapply (step_ag_recv (P I) (Fb I) K c (c - n) (sub_ne c n hn) (off18_at c n hn) (dst := sqAt gM (k0_off19 c (BitVec.ofNat 32 n.val)) i₂ s₂) rfl) $$ [HO Hc Hat]
  · isplitr; · iexact HI
    isplitr; · iexact Hlev
    isplitl [HO]; · iexact HO
    isplitl [Hc] <;> iassumption
  iintro ⟨HO, Hat, Hs⟩
  iapply (step_load_slot gM (c - n) (off20_at c n hn)) $$ Hs
  iintro Hs
  iapply Hk
  isplitl [HO]; · iexact HO
  isplitl [Hat]; · iexact Hat
  iexists (add1 (Fb I (c - n)))
  iexact Hs

/-- A store of the output window's rows, after a load of them that nothing uses. -/
theorem step_put {arg5 : Memref sig .tc .vmem S512x512 .f32} {r : Rect S512x512} (hr : ∀ a, r.stride a = 1) {w : r.shape.Idx → Elt F .f32}
    {hl : arg5.view.LoadsAt r.toLoadRect}
    {hx : (arg5.access r).Stores Finset.univ} {hm : (Finset.univ : Finset r.shape.Idx) = Finset.univ ∨ ∀ a, r.stride a = 1}
    {k : PUnit → Prog (TpuEff nD τ sig (Elt F) Λ₀ .tc) α} {X : S512x512.Idx → Elt F .f32} {Q : α → sProp 𝕄} :
    (own c arg5 X : sProp 𝕄)
      ⊢ iprop((own c arg5 (r.overlay X w) -∗ WP c (k ⟨⟩) Q)
        -∗ WP c (.op (.load arg5 r.toLoadRect hl) fun _ => .op (.store arg5 r w Finset.univ hx hm) k) Q) := by
  iintro H Hk
  iapply step_load $$ H; iintro H
  iapply (step_store hr) $$ H
  iexact Hk

/-- The transfer of the finished chunk to the device `n` further on. -/
theorem step_go (n i : Dev nD) (hn : n ≠ 0) (hi : i = n - 1) (hi7 : i ≠ 7) {dv : ℕ} (hdv : dv = (c + n).val)
    {oS : Fin 1 → ℕ} (hoS : oS = ![i.val]) (gs : List (Dev nD)) {hlt : dv < nD} {iS : ∀ i, oS i + S1.size i ≤ S8.size i}
    {iR : ∀ i, k0_off21 c i + S1.size i ≤ S8.size i}
    {iD : ∀ a, k0_off22 c a + S1x64x512.size a ≤ S8x64x512.size a} {sD : ∀ a, (Rect.unit (s := S8x64x512) (k0_off22 c) S1x64x512.size iD).stride a = 1}
    {sc : (sqAt gM (k0_off22 c) iD sD).view.ref.isScScratch = false} {w₁ : fM.view.WordExact} {w₂ : (sqAt gM (k0_off22 c) iD sD).view.WordExact}
    {w₃ : DmaTarget.Typed .vmem (.dma (semAt cc0_scratch7 (k0_off21 c) iR))
      (.remote (Dev.tc (⟨dv, hlt⟩ : Dev nD)) (sqAt gM (k0_off22 c) iD sD) (.dma (semAt cc0_scratch6 oS iS)) sc)}
    {k : PUnit → Prog (TpuEff nD τ sig (Elt F) Λ₀ .tc) α} {Q : α → sProp 𝕄} :
    iprop(recs' I K ∗ ow c (owed c [] [] (n :: gs)) ∗ fPart c i (Fb I c) ∗ agGo c n)
      ⊢ iprop((ow c (owed c [] [] gs) ∗ cred (tallyAt (dcell c 2 i) () N) -∗ WP c (k ⟨⟩) Q)
        -∗ WP c (.op (.enqueueDma fM
              (.remote (Dev.tc (⟨dv, hlt⟩ : Dev nD)) (sqAt gM (k0_off22 c) iD sD) (.dma (semAt cc0_scratch6 oS iS)) sc)
              (.dma (semAt cc0_scratch7 (k0_off21 c) iR)) w₁ w₂ w₃) k) Q) := by
  iintro ⟨#HI, HO, Hf, Hg⟩ Hk
  ihave Ht := (agTok_of (Fb I) c n i hi) $$ [Hf Hg]
  · isplitl [Hf] <;> iassumption
  iapply (step_ag_send (P I) (Fb I) K c n i hn hi7 hdv hoS (k0_off21_eq c) (k0_off22_eq c) gs) $$ [HO Ht]
  · isplitr; · iexact HI
    isplitl [HO] <;> iassumption
  iexact Hk

/-- The wait for the `i`-th transfer of the finished chunk to have left. -/
theorem step_left (i : Dev nD) (hi : i ≠ 7) {oS : Fin 1 → ℕ} (hoS : oS = ![i.val]) {iS : ∀ i, oS i + S1.size i ≤ S8.size i}
    {sp' : Space} {s₁ : Shape} {e₁ : EltTy} {src : Memref sig .tc sp' s₁ e₁} {w₁ w₂}
    {k : PUnit → Prog (TpuEff nD τ sig (Elt F) Λ₀ .tc) α} {Q : α → sProp 𝕄} :
    iprop(recs' I K ∗ levAts L lv ∗ ow c 0 ∗ cred (tallyAt (dcell c 2 i) () N) ∗ atPos ER (dcell c 2 i) 0 ∅ 0)
      ⊢ iprop((ow c 0 ∗ atPos ER (dcell c 2 i) 1 ∅ 0 ∗ fPart c i (Fb I c) -∗ WP c (k ⟨⟩) Q)
        -∗ WP c (.op (.waitDma2 (semAt cc0_scratch6 oS iS) src fM w₁ w₂) k) Q) :=
  step_ag_sent (P I) (Fb I) K c i hi hoS rfl

end Steps

variable (arg0 : Memref sig .tc .vmem S512x512 .f32) (harg0 : arg0.IsWhole) (arg1 : Memref sig .tc .vmem S512x256 .f32) (harg1 : arg1.IsWhole)
  (arg2 : Memref sig .tc .vmem S8x256x64 .f32) (harg2 : arg2.IsWhole) (arg3 : Memref sig .tc .vmem S8x256x64 .f32) (harg3 : arg3.IsWhole)
  (arg4 : Memref sig .tc .vmem S256x512 .f32) (harg4 : arg4.IsWhole) (arg5 : Memref sig .tc .vmem S512x512 .f32) (harg5 : arg5.IsWhole)

/-- The device's own chunk is read, and the chunks of the devices one and two back are awaited and added. -/
theorem part10 (v2 : BitVec 32) (Q : (Σ' (_ : FVec F S64x512 .f32), BitVec 32) → sProp 𝕄) :
    iprop(recs' I K ∗ levAts L lv ∗ ow c (owed c [] [] [1, 2, 3, 4, 5, 6, 7]) ∗ own c arg5 (I c).part ∗ rvIn c 1 ∗ rvIn c 2)
      ⊢ iprop((∀ v, ow c (owed c [] [] [1, 2, 3, 4, 5, 6, 7]) ∗ own c arg5 (I c).part ∗ rvOut c 1 ∗ rvOut c 2 -∗ Q ⟨acc2 I c, v⟩)
        -∗ WP c (k0_part10 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2) Q) := by
  rw [k0_part10_eq_skeleton]
  unfold k0_part10_skel
  simp only [Prog.lift, Prog.bind_op, Prog.bind_ret, Prog.bind_assoc]
  iintro ⟨#HI, #Hlev, HO, Ho, H1, H2⟩ Hk
  iapply step_load $$ Ho; iintro Ho
  iapply (step_rv I K c 1 (by decide) (b := 1#32) rfl [1, 2, 3, 4, 5, 6, 7]) $$ [HO H1]
  · isplitr; · iexact HI
    isplitr; · iexact Hlev
    isplitl [HO] <;> iassumption
  iintro ⟨HO, H1⟩
  iapply (step_rv I K c 2 (by decide) (b := 2#32) rfl [1, 2, 3, 4, 5, 6, 7]) $$ [HO H2]
  · isplitr; · iexact HI
    isplitr; · iexact Hlev
    isplitl [HO] <;> iassumption
  iintro ⟨HO, H2⟩
  ispecialize Hk $$ %(Scalar.subi v2 3#32) [HO Ho H1 H2]
  · isplitl [HO]; · iexact HO
    isplitl [Ho]; · iexact Ho
    isplitl [H1]; · iexact H1
    iexact H2
  iapply (step_ret (Q := Q)) $$ Hk

/-- The chunks of the devices three and four back are awaited and added. -/
theorem part11 (v2 v : BitVec 32) (Q : (Σ' (_ : FVec F S64x512 .f32), BitVec 32) → sProp 𝕄) :
    iprop(recs' I K ∗ levAts L lv ∗ ow c (owed c [] [] [1, 2, 3, 4, 5, 6, 7]) ∗ rvIn c 3 ∗ rvIn c 4)
      ⊢ iprop((∀ v, ow c (owed c [] [] [1, 2, 3, 4, 5, 6, 7]) ∗ rvOut c 3 ∗ rvOut c 4 -∗ Q ⟨acc4 I c, v⟩)
        -∗ WP c (k0_part11 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (acc2 I c) v) Q) := by
  rw [k0_part11_eq_skeleton]
  unfold k0_part11_skel
  simp only [Prog.lift, Prog.bind_op, Prog.bind_ret, Prog.bind_assoc]
  iintro ⟨#HI, #Hlev, HO, H3, H4⟩ Hk
  iapply (step_rv I K c 3 (by decide) (b := 3#32) rfl [1, 2, 3, 4, 5, 6, 7]) $$ [HO H3]
  · isplitr; · iexact HI
    isplitr; · iexact Hlev
    isplitl [HO] <;> iassumption
  iintro ⟨HO, H3⟩
  iapply (step_rv I K c 4 (by decide) (b := 4#32) rfl [1, 2, 3, 4, 5, 6, 7]) $$ [HO H4]
  · isplitr; · iexact HI
    isplitr; · iexact Hlev
    isplitl [HO] <;> iassumption
  iintro ⟨HO, H4⟩
  ispecialize Hk $$ %(Scalar.remsi (Scalar.addi (Scalar.subi v2 5#32) 8#32) 8#32) [HO H3 H4]
  · isplitl [HO]; · iexact HO
    isplitl [H3]; · iexact H3
    iexact H4
  iapply (step_ret (Q := Q)) $$ Hk

/-- The chunks of the devices five and six back are awaited and added. -/
theorem part12 (v2 v : BitVec 32) (Q : (Σ' (_ : FVec F S64x512 .f32), BitVec 32) → sProp 𝕄) :
    iprop(recs' I K ∗ levAts L lv ∗ ow c (owed c [] [] [1, 2, 3, 4, 5, 6, 7]) ∗ rvIn c 5 ∗ rvIn c 6)
      ⊢ iprop((∀ v, ow c (owed c [] [] [1, 2, 3, 4, 5, 6, 7]) ∗ rvOut c 5 ∗ rvOut c 6 -∗ Q ⟨acc6 I c, v⟩)
        -∗ WP c (k0_part12 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (acc4 I c) v) Q) := by
  rw [k0_part12_eq_skeleton]
  unfold k0_part12_skel
  simp only [Prog.lift, Prog.bind_op, Prog.bind_ret, Prog.bind_assoc]
  iintro ⟨#HI, #Hlev, HO, H5, H6⟩ Hk
  iapply (step_rv I K c 5 (by decide) (b := 5#32) rfl [1, 2, 3, 4, 5, 6, 7]) $$ [HO H5]
  · isplitr; · iexact HI
    isplitr; · iexact Hlev
    isplitl [HO] <;> iassumption
  iintro ⟨HO, H5⟩
  iapply (step_rv I K c 6 (by decide) (b := 6#32) rfl [1, 2, 3, 4, 5, 6, 7]) $$ [HO H6]
  · isplitr; · iexact HI
    isplitr; · iexact Hlev
    isplitl [HO] <;> iassumption
  iintro ⟨HO, H6⟩
  ispecialize Hk $$ %(Scalar.remsi (Scalar.addi (Scalar.subi v2 7#32) 8#32) 8#32) [HO H5 H6]
  · isplitl [HO]; · iexact HO
    isplitl [H5]; · iexact H5
    iexact H6
  iapply (step_ret (Q := Q)) $$ Hk

/-- The chunk of the device seven back is awaited and added; the finished chunk is stored and sent to the device one further on. -/
theorem part13 (v2 v : BitVec 32) (Q : PUnit → sProp 𝕄) :
    iprop(recs' I K ∗ levAts L lv ∗ ow c (owed c [] [] [1, 2, 3, 4, 5, 6, 7]) ∗ own c arg5 (I c).part ∗ rvIn c 7 ∗ (∃ X, own c fM X) ∗ agGo c 1)
      ⊢ iprop((ow c (owed c [] [] [2, 3, 4, 5, 6, 7]) ∗ own c arg5 (out0 I c) ∗ rvOut c 7 ∗ cred (tallyAt (dcell c 2 0) () N) ∗ fPart c 1 (Fb I c) ∗ fPart c 2 (Fb I c) ∗ fPart c 3 (Fb I c) ∗ fPart c 4 (Fb I c) ∗ fPart c 5 (Fb I c) ∗ fPart c 6 (Fb I c) ∗ fPart c 7 (Fb I c) -∗ Q ⟨⟩)
        -∗ WP c (k0_part13 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (acc6 I c) v) Q) := by
  rw [k0_part13_eq_skeleton]
  unfold k0_part13_skel
  simp only [Prog.lift, Prog.bind_op, Prog.bind_ret, Prog.bind_assoc]
  iintro ⟨#HI, #Hlev, HO, Ho, H7, ⟨%X, Hf⟩, g1⟩ Hk
  iapply (step_rv I K c 7 (by decide) (b := 7#32) rfl [1, 2, 3, 4, 5, 6, 7]) $$ [HO H7]
  · isplitr; · iexact HI
    isplitr; · iexact Hlev
    isplitl [HO] <;> iassumption
  iintro ⟨HO, H7⟩
  iapply step_load $$ Hf; iintro Hf
  iapply (step_store (fun _ => rfl)) $$ Hf; iintro Hf
  iapply (step_put c (fun _ => rfl)) $$ Ho; iintro Ho
  ihave Hf := (fM_stored c inb_S64x512_S64x512_0_0 X (Fb I c)) $$ [Hf]
  · iexact Hf
  unfold eight
  icases Hf with ⟨f0, f1, f2, f3, f4, f5, f6, f7⟩
  iapply (step_go I K c 1 0 (by decide) (by decide) (by decide) (k0_dev16_eq c) (oS := ![0]) rfl [2, 3, 4, 5, 6, 7]) $$ [HO f0 g1]
  · isplitr; · iexact HI
    isplitl [HO]; · iexact HO
    isplitl [f0]; · iexact f0
    iexact g1
  iintro ⟨HO, c0⟩
  ispecialize Hk $$ [HO Ho H7 c0 f1 f2 f3 f4 f5 f6 f7]
  · isplitl [HO]; · iexact HO
    isplitl [Ho]; · iexact Ho
    isplitl [H7]; · iexact H7
    isplitl [c0]; · iexact c0
    isplitl [f1]; · iexact f1
    isplitl [f2]; · iexact f2
    isplitl [f3]; · iexact f3
    isplitl [f4]; · iexact f4
    isplitl [f5]; · iexact f5
    isplitl [f6]; · iexact f6
    iexact f7
  iapply (step_ret (Q := Q)) $$ Hk

/-- The finished chunk is sent to the devices two, three and four further on. -/
theorem part14 (v2 : BitVec 32) (Q : PUnit → sProp 𝕄) :
    iprop(recs' I K ∗ ow c (owed c [] [] [2, 3, 4, 5, 6, 7]) ∗ fPart c 1 (Fb I c) ∗ fPart c 2 (Fb I c) ∗ fPart c 3 (Fb I c) ∗ agGo c 2 ∗ agGo c 3 ∗ agGo c 4)
      ⊢ iprop((ow c (owed c [] [] [5, 6, 7]) ∗ cred (tallyAt (dcell c 2 1) () N) ∗ cred (tallyAt (dcell c 2 2) () N) ∗ cred (tallyAt (dcell c 2 3) () N) -∗ Q ⟨⟩)
        -∗ WP c (k0_part14 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2) Q) := by
  rw [k0_part14_eq_skeleton]
  unfold k0_part14_skel
  simp only [Prog.lift, Prog.bind_op, Prog.bind_ret, Prog.bind_assoc]
  iintro ⟨#HI, HO, f1, f2, f3, g2, g3, g4⟩ Hk
  iapply (step_go I K c 2 1 (by decide) (by decide) (by decide) (k0_dev17_eq c) (oS := ![1]) rfl [3, 4, 5, 6, 7]) $$ [HO f1 g2]
  · isplitr; · iexact HI
    isplitl [HO]; · iexact HO
    isplitl [f1]; · iexact f1
    iexact g2
  iintro ⟨HO, c1⟩
  iapply (step_go I K c 3 2 (by decide) (by decide) (by decide) (k0_dev18_eq c) (oS := ![2]) rfl [4, 5, 6, 7]) $$ [HO f2 g3]
  · isplitr; · iexact HI
    isplitl [HO]; · iexact HO
    isplitl [f2]; · iexact f2
    iexact g3
  iintro ⟨HO, c2⟩
  iapply (step_go I K c 4 3 (by decide) (by decide) (by decide) (k0_dev19_eq c) (oS := ![3]) rfl [5, 6, 7]) $$ [HO f3 g4]
  · isplitr; · iexact HI
    isplitl [HO]; · iexact HO
    isplitl [f3]; · iexact f3
    iexact g4
  iintro ⟨HO, c3⟩
  ispecialize Hk $$ [HO c1 c2 c3]
  · isplitl [HO]; · iexact HO
    isplitl [c1]; · iexact c1
    isplitl [c2]; · iexact c2
    iexact c3
  iapply (step_ret (Q := Q)) $$ Hk

/-- The finished chunk is sent to the devices five, six and seven further on; that of the device one back is awaited. -/
theorem part15 (v2 : BitVec 32) (Q : BitVec 32 → sProp 𝕄) :
    iprop(recs' I K ∗ levAts L lv ∗ ow c (owed c [] [] [5, 6, 7]) ∗ fPart c 4 (Fb I c) ∗ fPart c 5 (Fb I c) ∗ fPart c 6 (Fb I c) ∗ agGo c 5 ∗ agGo c 6 ∗ agGo c 7 ∗ gvIn c 1)
      ⊢ iprop((∀ v, ow c 0 ∗ cred (tallyAt (dcell c 2 4) () N) ∗ cred (tallyAt (dcell c 2 5) () N) ∗ cred (tallyAt (dcell c 2 6) () N) ∗ atPos ER (dcell c 3 (c - 1)) 1 ∅ 0 ∗ own c (sl gM (c - 1)) (add1 (Fb I (c - 1))) -∗ Q v)
        -∗ WP c (k0_part15 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2) Q) := by
  rw [k0_part15_eq_skeleton]
  unfold k0_part15_skel
  simp only [Prog.lift, Prog.bind_op, Prog.bind_ret, Prog.bind_assoc]
  iintro ⟨#HI, #Hlev, HO, f4, f5, f6, g5, g6, g7, H1⟩ Hk
  iapply (step_go I K c 5 4 (by decide) (by decide) (by decide) (k0_dev20_eq c) (oS := ![4]) rfl [6, 7]) $$ [HO f4 g5]
  · isplitr; · iexact HI
    isplitl [HO]; · iexact HO
    isplitl [f4]; · iexact f4
    iexact g5
  iintro ⟨HO, c4⟩
  iapply (step_go I K c 6 5 (by decide) (by decide) (by decide) (k0_dev21_eq c) (oS := ![5]) rfl [7]) $$ [HO f5 g6]
  · isplitr; · iexact HI
    isplitl [HO]; · iexact HO
    isplitl [f5]; · iexact f5
    iexact g6
  iintro ⟨HO, c5⟩
  iapply (step_go I K c 7 6 (by decide) (by decide) (by decide) (k0_dev22_eq c) (oS := ![6]) rfl []) $$ [HO f6 g7]
  · isplitr; · iexact HI
    isplitl [HO]; · iexact HO
    isplitl [f6]; · iexact f6
    iexact g7
  iintro ⟨HO, c6⟩
  unfold gvIn
  icases H1 with ⟨Hc, Hat⟩
  iapply (step_ag_recv (P I) (Fb I) K c (c - 1) (sub_ne c 1 (by decide)) (oS := k0_off18 c 1#32) (off18_at c 1 (by decide))
    (dst := sqAt gM (k0_off19 c 1#32) (k0_off19_inb c 0) (fun _ => rfl)) rfl) $$ [HO Hc Hat]
  · isplitr; · iexact HI
    isplitr; · iexact Hlev
    isplitl [HO]; · iexact HO
    isplitl [Hc] <;> iassumption
  iintro ⟨HO, Hat, Hs⟩
  ispecialize Hk $$ %(Scalar.remsi (Scalar.addi (Scalar.subi v2 1#32) 8#32) 8#32) [HO c4 c5 c6 Hat Hs]
  · isplitl [HO]; · iexact HO
    isplitl [c4]; · iexact c4
    isplitl [c5]; · iexact c5
    isplitl [c6]; · iexact c6
    isplitl [Hat]; · iexact Hat
    iexact Hs
  iapply (step_ret (Q := Q)) $$ Hk

/-- The finished chunk of the device one back is stored; that of the device two back is awaited and stored. -/
theorem part16 (v2 v : BitVec 32) (Q : BitVec 32 → sProp 𝕄) :
    iprop(recs' I K ∗ levAts L lv ∗ ow c 0 ∗ own c arg5 (out0 I c) ∗ own c (sl gM (c - 1)) (add1 (Fb I (c - 1))) ∗ gvIn c 2)
      ⊢ iprop((∀ v, ow c 0 ∗ own c arg5 (out2 I c) ∗ own c (sl gM (c - 1)) (add1 (Fb I (c - 1))) ∗ gvOut c 2 -∗ Q v)
        -∗ WP c (k0_part16 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 v) Q) := by
  rw [k0_part16_eq_skeleton]
  unfold k0_part16_skel
  simp only [Prog.lift, Prog.bind_op, Prog.bind_ret, Prog.bind_assoc]
  iintro ⟨#HI, #Hlev, HO, Ho, Hs, H2⟩ Hk
  iapply (step_load_slot gM (c - 1) (off := k0_off20 c 1#32) (off20_at c 1 (by decide))) $$ Hs; iintro Hs
  iapply (step_put c (fun _ => rfl)) $$ Ho; iintro Ho
  iapply (step_gv I K c 2 (by decide) (b := 2#32) rfl) $$ [HO H2]
  · isplitr; · iexact HI
    isplitr; · iexact Hlev
    isplitl [HO] <;> iassumption
  iintro ⟨HO, H2⟩
  iapply (step_put c (fun _ => rfl)) $$ Ho; iintro Ho
  ispecialize Hk $$ %(Scalar.remsi (Scalar.addi (Scalar.subi v2 3#32) 8#32) 8#32) [HO Ho Hs H2]
  · isplitl [HO]; · iexact HO
    isplitl [Ho]; · iexact Ho
    isplitl [Hs]; · iexact Hs
    iexact H2
  iapply (step_ret (Q := Q)) $$ Hk

/-- The finished chunks of the devices three and four back are awaited and stored. -/
theorem part17 (v2 v : BitVec 32) (Q : BitVec 32 → sProp 𝕄) :
    iprop(recs' I K ∗ levAts L lv ∗ ow c 0 ∗ own c arg5 (out2 I c) ∗ gvIn c 3 ∗ gvIn c 4)
      ⊢ iprop((∀ v, ow c 0 ∗ own c arg5 (out4 I c) ∗ gvOut c 3 ∗ gvOut c 4 -∗ Q v)
        -∗ WP c (k0_part17 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 v) Q) := by
  rw [k0_part17_eq_skeleton]
  unfold k0_part17_skel
  simp only [Prog.lift, Prog.bind_op, Prog.bind_ret, Prog.bind_assoc]
  iintro ⟨#HI, #Hlev, HO, Ho, H3, H4⟩ Hk
  iapply (step_gv I K c 3 (by decide) (b := 3#32) rfl) $$ [HO H3]
  · isplitr; · iexact HI
    isplitr; · iexact Hlev
    isplitl [HO] <;> iassumption
  iintro ⟨HO, H3⟩
  iapply (step_put c (fun _ => rfl)) $$ Ho; iintro Ho
  iapply (step_gv I K c 4 (by decide) (b := 4#32) rfl) $$ [HO H4]
  · isplitr; · iexact HI
    isplitr; · iexact Hlev
    isplitl [HO] <;> iassumption
  iintro ⟨HO, H4⟩
  iapply (step_put c (fun _ => rfl)) $$ Ho; iintro Ho
  ispecialize Hk $$ %(Scalar.remsi (Scalar.addi (Scalar.subi v2 5#32) 8#32) 8#32) [HO Ho H3 H4]
  · isplitl [HO]; · iexact HO
    isplitl [Ho]; · iexact Ho
    isplitl [H3]; · iexact H3
    iexact H4
  iapply (step_ret (Q := Q)) $$ Hk

/-- The finished chunk of the device five back is awaited and stored; that of the device six back is awaited and read. -/
theorem part18 (v2 v : BitVec 32) (Q : FVec F S64x512 .f32 → sProp 𝕄) :
    iprop(recs' I K ∗ levAts L lv ∗ ow c 0 ∗ own c arg5 (out4 I c) ∗ gvIn c 5 ∗ gvIn c 6)
      ⊢ iprop((ow c 0 ∗ own c arg5 (out5 I c) ∗ gvOut c 5 ∗ gvOut c 6 -∗ Q (k0_pay37 (add1 (Fb I (c - 6)))))
        -∗ WP c (k0_part18 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 v) Q) := by
  rw [k0_part18_eq_skeleton]
  unfold k0_part18_skel
  simp only [Prog.lift, Prog.bind_op, Prog.bind_ret, Prog.bind_assoc]
  iintro ⟨#HI, #Hlev, HO, Ho, H5, H6⟩ Hk
  iapply (step_gv I K c 5 (by decide) (b := 5#32) rfl) $$ [HO H5]
  · isplitr; · iexact HI
    isplitr; · iexact Hlev
    isplitl [HO] <;> iassumption
  iintro ⟨HO, H5⟩
  iapply (step_put c (fun _ => rfl)) $$ Ho; iintro Ho
  iapply (step_gv I K c 6 (by decide) (b := 6#32) rfl) $$ [HO H6]
  · isplitr; · iexact HI
    isplitr; · iexact Hlev
    isplitl [HO] <;> iassumption
  iintro ⟨HO, H6⟩
  iapply step_load $$ Ho; iintro Ho
  ispecialize Hk $$ [HO Ho H5 H6]
  · isplitl [HO]; · iexact HO
    isplitl [Ho]; · iexact Ho
    isplitl [H5]; · iexact H5
    iexact H6
  iapply (step_ret (Q := Q)) $$ Hk

/-- The finished chunk of the device six back is stored and that of the device seven back awaited and stored; the first exchange's sends of chunks 0 to 3 are waited for. -/
theorem part19 (v2 : BitVec 32) (Q : BitVec 32 → sProp 𝕄) :
    iprop(recs' I K ∗ levAts L lv ∗ ow c 0 ∗ own c arg5 (out5 I c) ∗ gvIn c 7 ∗ rsOut c 0 ∗ rsPos c 0 0 ∗ rsOut c 1 ∗ rsPos c 1 0 ∗ rsOut c 2 ∗ rsPos c 2 0 ∗ rsOut c 3 ∗ rsPos c 3 0)
      ⊢ iprop((ow c 0 ∗ own c arg5 (outF I c) ∗ gvOut c 7 ∗ (∃ X, own c (sl sM 0) X) ∗ rsPos c 0 1 ∗ (∃ X, own c (sl sM 1) X) ∗ rsPos c 1 1 ∗ (∃ X, own c (sl sM 2) X) ∗ rsPos c 2 1 ∗ (∃ X, own c (sl sM 3) X) ∗ rsPos c 3 1 -∗ Q 4#32)
        -∗ WP c (k0_part19 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 (k0_pay37 (add1 (Fb I (c - 6))))) Q) := by
  rw [k0_part19_eq_skeleton]
  unfold k0_part19_skel
  simp only [Prog.lift, Prog.bind_op, Prog.bind_ret, Prog.bind_assoc]
  iintro ⟨#HI, #Hlev, HO, Ho, H7, r0, p0, r1, p1, r2, p2, r3, p3⟩ Hk
  iapply (step_store (fun _ => rfl)) $$ Ho; iintro Ho
  iapply (step_gv I K c 7 (by decide) (b := 7#32) rfl) $$ [HO H7]
  · isplitr; · iexact HI
    isplitr; · iexact Hlev
    isplitl [HO] <;> iassumption
  iintro ⟨HO, H7⟩
  iapply (step_put c (fun _ => rfl)) $$ Ho; iintro Ho
  iapply (step_rs_sent (P I) (Fb I) K c 0 (cond9_iff c) (oS := ![0]) rfl (dst := fun _ => sqAt sM ![0, 0, 0] inb_S8x64x512_S1x64x512_0_0_0 (fun _ => rfl)) (fun _ => rfl)) $$ [HO r0 p0]
  · isplitr; · iexact HI
    isplitr; · iexact Hlev
    isplitl [HO]; · iexact HO
    isplitl [r0]; · iexact r0
    iexact p0
  iintro ⟨HO, r0, p0⟩
  iapply (step_rs_sent (P I) (Fb I) K c 1 (cond10_iff c) (oS := ![1]) rfl (dst := fun _ => sqAt sM ![1, 0, 0] inb_S8x64x512_S1x64x512_1_0_0 (fun _ => rfl)) (fun _ => rfl)) $$ [HO r1 p1]
  · isplitr; · iexact HI
    isplitr; · iexact Hlev
    isplitl [HO]; · iexact HO
    isplitl [r1]; · iexact r1
    iexact p1
  iintro ⟨HO, r1, p1⟩
  iapply (step_rs_sent (P I) (Fb I) K c 2 (cond11_iff c) (oS := ![2]) rfl (dst := fun _ => sqAt sM ![2, 0, 0] inb_S8x64x512_S1x64x512_2_0_0 (fun _ => rfl)) (fun _ => rfl)) $$ [HO r2 p2]
  · isplitr; · iexact HI
    isplitr; · iexact Hlev
    isplitl [HO]; · iexact HO
    isplitl [r2]; · iexact r2
    iexact p2
  iintro ⟨HO, r2, p2⟩
  iapply (step_rs_sent (P I) (Fb I) K c 3 (cond12_iff c) (oS := ![3]) rfl (dst := fun _ => sqAt sM ![3, 0, 0] inb_S8x64x512_S1x64x512_3_0_0 (fun _ => rfl)) (fun _ => rfl)) $$ [HO r3 p3]
  · isplitr; · iexact HI
    isplitr; · iexact Hlev
    isplitl [HO]; · iexact HO
    isplitl [r3]; · iexact r3
    iexact p3
  iintro ⟨HO, r3, p3⟩
  ispecialize Hk $$ [HO Ho H7 r0 p0 r1 p1 r2 p2 r3 p3]
  · isplitl [HO]; · iexact HO
    isplitl [Ho]; · iexact Ho
    isplitl [H7]; · iexact H7
    isplitl [r0]; · iexact r0
    isplitl [p0]; · iexact p0
    isplitl [r1]; · iexact r1
    isplitl [p1]; · iexact p1
    isplitl [r2]; · iexact r2
    isplitl [p2]; · iexact p2
    isplitl [r3]; · iexact r3
    iexact p3
  iapply (step_ret (Q := Q)) $$ Hk

/-- The first exchange's sends of chunks 4 to 7, and the second's seven, are waited for. -/
theorem part20 (v2 : BitVec 32) (Q : PUnit → sProp 𝕄) :
    iprop(recs' I K ∗ levAts L lv ∗ ow c 0 ∗ rsOut c 4 ∗ rsPos c 4 0 ∗ rsOut c 5 ∗ rsPos c 5 0 ∗ rsOut c 6 ∗ rsPos c 6 0 ∗ rsOut c 7 ∗ rsPos c 7 0 ∗ cred (tallyAt (dcell c 2 0) () N) ∗ atPos ER (dcell c 2 0) 0 ∅ 0 ∗ cred (tallyAt (dcell c 2 1) () N) ∗ atPos ER (dcell c 2 1) 0 ∅ 0 ∗ cred (tallyAt (dcell c 2 2) () N) ∗ atPos ER (dcell c 2 2) 0 ∅ 0 ∗ cred (tallyAt (dcell c 2 3) () N) ∗ atPos ER (dcell c 2 3) 0 ∅ 0)
      ⊢ iprop((ow c 0 ∗ (∃ X, own c (sl sM 4) X) ∗ rsPos c 4 1 ∗ (∃ X, own c (sl sM 5) X) ∗ rsPos c 5 1 ∗ (∃ X, own c (sl sM 6) X) ∗ rsPos c 6 1 ∗ (∃ X, own c (sl sM 7) X) ∗ rsPos c 7 1 ∗ atPos ER (dcell c 2 0) 1 ∅ 0 ∗ fPart c 0 (Fb I c) ∗ atPos ER (dcell c 2 1) 1 ∅ 0 ∗ fPart c 1 (Fb I c) ∗ atPos ER (dcell c 2 2) 1 ∅ 0 ∗ fPart c 2 (Fb I c) ∗ atPos ER (dcell c 2 3) 1 ∅ 0 ∗ fPart c 3 (Fb I c) -∗ Q ⟨⟩)
        -∗ WP c (k0_part20 arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7
          c v2 4#32) Q) := by
  rw [k0_part20_eq_skeleton]
  unfold k0_part20_skel
  simp only [Prog.lift, Prog.bind_op, Prog.bind_ret, Prog.bind_assoc]
  iintro ⟨#HI, #Hlev, HO, r4, p4, r5, p5, r6, p6, r7, p7, c0, q0, c1, q1, c2, q2, c3, q3⟩ Hk
  iapply (step_rs_sent (P I) (Fb I) K c 4 (cond13_iff c) (oS := ![4]) rfl (dst := fun _ => sqAt sM ![4, 0, 0] inb_S8x64x512_S1x64x512_4_0_0 (fun _ => rfl)) (fun _ => rfl)) $$ [HO r4 p4]
  · isplitr; · iexact HI
    isplitr; · iexact Hlev
    isplitl [HO]; · iexact HO
    isplitl [r4]; · iexact r4
    iexact p4
  iintro ⟨HO, r4, p4⟩
  iapply (step_rs_sent (P I) (Fb I) K c 5 (cond14_iff c) (oS := ![5]) rfl (dst := fun _ => sqAt sM ![5, 0, 0] inb_S8x64x512_S1x64x512_5_0_0 (fun _ => rfl)) (fun _ => rfl)) $$ [HO r5 p5]
  · isplitr; · iexact HI
    isplitr; · iexact Hlev
    isplitl [HO]; · iexact HO
    isplitl [r5]; · iexact r5
    iexact p5
  iintro ⟨HO, r5, p5⟩
  iapply (step_rs_sent (P I) (Fb I) K c 6 (cond15_iff c) (oS := ![6]) rfl (dst := fun _ => sqAt sM ![6, 0, 0] inb_S8x64x512_S1x64x512_6_0_0 (fun _ => rfl)) (fun _ => rfl)) $$ [HO r6 p6]
  · isplitr; · iexact HI
    isplitr; · iexact Hlev
    isplitl [HO]; · iexact HO
    isplitl [r6]; · iexact r6
    iexact p6
  iintro ⟨HO, r6, p6⟩
  iapply (step_rs_sent (P I) (Fb I) K c 7 (cond16_iff c) (oS := ![7]) rfl (dst := fun _ => sqAt sM ![7, 0, 0] inb_S8x64x512_S1x64x512_7_0_0 (fun _ => rfl)) (fun _ => rfl)) $$ [HO r7 p7]
  · isplitr; · iexact HI
    isplitr; · iexact Hlev
    isplitl [HO]; · iexact HO
    isplitl [r7]; · iexact r7
    iexact p7
  iintro ⟨HO, r7, p7⟩
  iapply (step_left I K c 0 (by decide) (oS := ![0]) rfl) $$ [HO c0 q0]
  · isplitr; · iexact HI
    isplitr; · iexact Hlev
    isplitl [HO]; · iexact HO
    isplitl [c0]; · iexact c0
    iexact q0
  iintro ⟨HO, q0, f0⟩
  iapply (step_left I K c 1 (by decide) (oS := ![1]) rfl) $$ [HO c1 q1]
  · isplitr; · iexact HI
    isplitr; · iexact Hlev
    isplitl [HO]; · iexact HO
    isplitl [c1]; · iexact c1
    iexact q1
  iintro ⟨HO, q1, f1⟩
  iapply (step_left I K c 2 (by decide) (oS := ![2]) rfl) $$ [HO c2 q2]
  · isplitr; · iexact HI
    isplitr; · iexact Hlev
    isplitl [HO]; · iexact HO
    isplitl [c2]; · iexact c2
    iexact q2
  iintro ⟨HO, q2, f2⟩
  iapply (step_left I K c 3 (by decide) (oS := ![3]) rfl) $$ [HO c3 q3]
  · isplitr; · iexact HI
    isplitr; · iexact Hlev
    isplitl [HO]; · iexact HO
    isplitl [c3]; · iexact c3
    iexact q3
  iintro ⟨HO, q3, f3⟩
  ispecialize Hk $$ [HO r4 p4 r5 p5 r6 p6 r7 p7 q0 f0 q1 f1 q2 f2 q3 f3]
  · isplitl [HO]; · iexact HO
    isplitl [r4]; · iexact r4
    isplitl [p4]; · iexact p4
    isplitl [r5]; · iexact r5
    isplitl [p5]; · iexact p5
    isplitl [r6]; · iexact r6
    isplitl [p6]; · iexact p6
    isplitl [r7]; · iexact r7
    isplitl [p7]; · iexact p7
    isplitl [q0]; · iexact q0
    isplitl [f0]; · iexact f0
    isplitl [q1]; · iexact q1
    isplitl [f1]; · iexact f1
    isplitl [q2]; · iexact q2
    isplitl [f2]; · iexact f2
    isplitl [q3]; · iexact q3
    iexact f3
  iapply (step_ret (Q := Q)) $$ Hk

end Parts

end Cert.KernelIdeal.Run

end
-- ==== Proof.Body.lean ====
/- The kernel body, from its parts. -/
module

public import proofs.«01_k».proof.Proof.PartsB

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A program and what comes after it. -/
theorem step_seq {α β : Type} {c : Dev nD} {p : Prog (TpuEff nD τ sig (Elt F) Λ₀ .tc) α} {k : α → Prog (TpuEff nD τ sig (Elt F) Λ₀ .tc) β}
    {Q : β → sProp 𝕄} : WP c p (fun a => WP c (k a) Q) ⊢ WP c (p >>= k) Q := by
  unfold WP
  rw [wp_bind]

section Body

variable (I : Dev nD → Ins F) (K : GSem nD τ sig → ℕ) (c : Dev nD)

/-- The positions of the cells counting the finished chunk's transfers out. -/
def leftPos (r : ℕ) : sProp 𝕄 :=
  iprop(atPos ER (dcell c 2 0) r ∅ 0 ∗ atPos ER (dcell c 2 1) r ∅ 0 ∗ atPos ER (dcell c 2 2) r ∅ 0 ∗ atPos ER (dcell c 2 3) r ∅ 0
    ∗ atPos ER (dcell c 2 4) r ∅ 0 ∗ atPos ER (dcell c 2 5) r ∅ 0 ∗ atPos ER (dcell c 2 6) r ∅ 0)

/-- What the body is given beside its windows. -/
def given : sProp 𝕄 :=
  iprop(seven (sigTok (F := F) c) ∗ cred (tallyAt (bcell c) () 7) ∗ atPos ER (bcell c) 0 ∅ 0 ∗ eight (rsDuty (F := F) c) ∗ seven (agDuty (F := F) c)
    ∗ eight (sSlot (F := F) c) ∗ (∃ X, own (F := F) c fM X) ∗ seven (rvIn (F := F) c) ∗ seven (gvIn (F := F) c)
    ∗ (eight fun k => rsPos (F := F) c k 0) ∗ leftPos (F := F) c 0)

/-- What the body leaves beside its windows. -/
def left : sProp 𝕄 :=
  iprop(atPos ER (bcell c) 1 ∅ 0 ∗ eight (sSlot (F := F) c) ∗ (∃ X, own (F := F) c fM X) ∗ seven (rvOut (F := F) c) ∗ seven (gvOut (F := F) c)
    ∗ (eight fun k => rsPos (F := F) c k 1) ∗ leftPos (F := F) c 1)

variable (arg0 : Memref sig .tc .vmem S512x512 .f32) (harg0 : arg0.IsWhole) (arg1 : Memref sig .tc .vmem S512x256 .f32) (harg1 : arg1.IsWhole)
  (arg2 : Memref sig .tc .vmem S8x256x64 .f32) (harg2 : arg2.IsWhole) (arg3 : Memref sig .tc .vmem S8x256x64 .f32) (harg3 : arg3.IsWhole)
  (arg4 : Memref sig .tc .vmem S256x512 .f32) (harg4 : arg4.IsWhole) (arg5 : Memref sig .tc .vmem S512x512 .f32) (harg5 : arg5.IsWhole)

/-- The whole body: the output window holds the exchange's result. -/
theorem body_run (G : S512x512.Idx → Elt F .f32) (Q : PUnit → sProp 𝕄) :
    iprop(recs' I K ∗ levAts L lv ∗ ow c (O₀ c) ∗ ins c arg0 arg1 arg2 arg3 arg4 (I c) ∗ own c arg5 G ∗ given (F := F) c)
      ⊢ iprop((ow c 0 ∗ ins c arg0 arg1 arg2 arg3 arg4 (I c) ∗ own c arg5 (outF I c) ∗ left (F := F) c -∗ Q ⟨⟩)
        -∗ WP c (cc0_body arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7) Q) := by
  rw [cc0_body_eq_skeleton]
  unfold cc0_body_skel given seven eight leftPos O₀
  iintro ⟨#HI, #Hlev, HO, Hins, Ho, ⟨s1, s2, s3, s4, s5, s6, s7⟩, Hc, Hat, Hrd, Had, ⟨m0, m1, m2, m3, m4, m5, m6, m7⟩, Hf, ⟨r1, r2, r3, r4, r5, r6, r7⟩, ⟨g1, g2, g3, g4, g5, g6, g7⟩, ⟨p0, p1, p2, p3, p4, p5, p6, p7⟩, q0, q1, q2, q3, q4, q5, q6⟩ Hk
  iapply step_seq
  iapply (part1 I K c arg0 harg0 arg1 harg1 arg2 harg2 arg3 harg3 arg4 harg4 arg5 harg5 _) $$ [HO s1 s2 s3 s4 s5]
  · isplitr; · iexact HI
    isplitl [HO]; · iexact HO
    isplitl [s1]; · iexact s1
    isplitl [s2]; · iexact s2
    isplitl [s3]; · iexact s3
    isplitl [s4]; · iexact s4
    iexact s5
  iintro %v2 %v24 HO
  dsimp (config := { failIfUnchanged := false }) only
  iapply step_seq
  iapply (part2 I K c arg0 harg0 arg1 harg1 arg2 harg2 arg3 harg3 arg4 harg4 arg5 harg5 v2 v24 8#32 _) $$ [HO s6 s7 Hins]
  · isplitr; · iexact HI
    isplitl [HO]; · iexact HO
    isplitl [s6]; · iexact s6
    isplitl [s7]; · iexact s7
    iexact Hins
  iintro ⟨HO, Hins⟩
  dsimp (config := { failIfUnchanged := false }) only
  iapply step_seq
  iapply (part3 I c arg0 harg0 arg1 harg1 arg2 harg2 arg3 harg3 arg4 harg4 arg5 harg5 _) $$ [Hins]
  · iexact Hins
  iintro Hins
  dsimp (config := { failIfUnchanged := false }) only
  iapply step_seq
  iapply (part4 I c arg0 harg0 arg1 harg1 arg2 harg2 arg3 harg3 arg4 harg4 arg5 harg5 _) $$ [Hins]
  · iexact Hins
  iintro Hins
  dsimp (config := { failIfUnchanged := false }) only
  iapply step_seq
  iapply (part5 I K c arg0 harg0 arg1 harg1 arg2 harg2 arg3 harg3 arg4 harg4 arg5 harg5 v2 G _) $$ [HO Hins Ho Hc Hat Hrd Had m0 m1 m2]
  · isplitr; · iexact HI
    isplitr; · iexact Hlev
    isplitl [HO]; · iexact HO
    isplitl [Hins]; · iexact Hins
    isplitl [Ho]; · iexact Ho
    isplitl [Hc]; · iexact Hc
    isplitl [Hat]; · iexact Hat
    isplitl [Hrd]; · unfold eight; iexact Hrd
    isplitl [Had]; · unfold seven; iexact Had
    isplitl [m0]; · iexact m0
    isplitl [m1]; · iexact m1
    iexact m2
  iintro %v172 ⟨HO, Hins, Ho, Hat, t0, t1, m2, t2, t3, t4, t5, t6, t7, Hag⟩
  dsimp (config := { failIfUnchanged := false }) only
  unfold seven
  icases Hag with ⟨a1, a2, a3, a4, a5, a6, a7⟩
  iapply step_seq
  iapply (part6 I K c arg0 harg0 arg1 harg1 arg2 harg2 arg3 harg3 arg4 harg4 arg5 harg5 v2 v172 _) $$ [HO Hins m2 m3 t2 t3]
  · isplitr; · iexact HI
    isplitl [HO]; · iexact HO
    isplitl [Hins]; · iexact Hins
    isplitl [m2]; · iexact m2
    isplitl [m3]; · iexact m3
    isplitl [t2]; · iexact t2
    iexact t3
  iintro ⟨HO, Hins, t2, t3⟩
  dsimp (config := { failIfUnchanged := false }) only
  iapply step_seq
  iapply (part7 I c arg0 harg0 arg1 harg1 arg2 harg2 arg3 harg3 arg4 harg4 arg5 harg5 _) $$ [Hins]
  · iexact Hins
  iintro Hins
  dsimp (config := { failIfUnchanged := false }) only
  iapply step_seq
  iapply (part8 I c arg0 harg0 arg1 harg1 arg2 harg2 arg3 harg3 arg4 harg4 arg5 harg5 (Ins.rTop.overlay G (I c).top) _) $$ [Hins Ho]
  · isplitl [Hins]; · iexact Hins
    iexact Ho
  iintro ⟨Hins, Ho⟩
  dsimp (config := { failIfUnchanged := false }) only
  rw [Ins.part_eq (I c) G]
  iapply step_seq
  iapply (part9 I K c arg0 harg0 arg1 harg1 arg2 harg2 arg3 harg3 arg4 harg4 arg5 harg5 v2 _) $$ [HO m4 m5 m6 m7 t4 t5 t6 t7]
  · isplitr; · iexact HI
    isplitl [HO]; · iexact HO
    isplitl [m4]; · iexact m4
    isplitl [m5]; · iexact m5
    isplitl [m6]; · iexact m6
    isplitl [m7]; · iexact m7
    isplitl [t4]; · iexact t4
    isplitl [t5]; · iexact t5
    isplitl [t6]; · iexact t6
    iexact t7
  iintro ⟨HO, t4, t5, t6, t7⟩
  dsimp (config := { failIfUnchanged := false }) only
  iapply step_seq
  iapply (part10 I K c arg0 harg0 arg1 harg1 arg2 harg2 arg3 harg3 arg4 harg4 arg5 harg5 v2 _) $$ [HO Ho r1 r2]
  · isplitr; · iexact HI
    isplitr; · iexact Hlev
    isplitl [HO]; · iexact HO
    isplitl [Ho]; · iexact Ho
    isplitl [r1]; · iexact r1
    iexact r2
  iintro %v354 ⟨HO, Ho, r1, r2⟩
  dsimp (config := { failIfUnchanged := false }) only
  iapply step_seq
  iapply (part11 I K c arg0 harg0 arg1 harg1 arg2 harg2 arg3 harg3 arg4 harg4 arg5 harg5 v2 v354 _) $$ [HO r3 r4]
  · isplitr; · iexact HI
    isplitr; · iexact Hlev
    isplitl [HO]; · iexact HO
    isplitl [r3]; · iexact r3
    iexact r4
  iintro %v388 ⟨HO, r3, r4⟩
  dsimp (config := { failIfUnchanged := false }) only
  iapply step_seq
  iapply (part12 I K c arg0 harg0 arg1 harg1 arg2 harg2 arg3 harg3 arg4 harg4 arg5 harg5 v2 v388 _) $$ [HO r5 r6]
  · isplitr; · iexact HI
    isplitr; · iexact Hlev
    isplitl [HO]; · iexact HO
    isplitl [r5]; · iexact r5
    iexact r6
  iintro %v420 ⟨HO, r5, r6⟩
  dsimp (config := { failIfUnchanged := false }) only
  iapply step_seq
  iapply (part13 I K c arg0 harg0 arg1 harg1 arg2 harg2 arg3 harg3 arg4 harg4 arg5 harg5 v2 v420 _) $$ [HO Ho r7 Hf a1]
  · isplitr; · iexact HI
    isplitr; · iexact Hlev
    isplitl [HO]; · iexact HO
    isplitl [Ho]; · iexact Ho
    isplitl [r7]; · iexact r7
    isplitl [Hf]; · iexact Hf
    iexact a1
  iintro ⟨HO, Ho, r7, c0, f1, f2, f3, f4, f5, f6, f7⟩
  dsimp (config := { failIfUnchanged := false }) only
  iapply step_seq
  iapply (part14 I K c arg0 harg0 arg1 harg1 arg2 harg2 arg3 harg3 arg4 harg4 arg5 harg5 v2 _) $$ [HO f1 f2 f3 a2 a3 a4]
  · isplitr; · iexact HI
    isplitl [HO]; · iexact HO
    isplitl [f1]; · iexact f1
    isplitl [f2]; · iexact f2
    isplitl [f3]; · iexact f3
    isplitl [a2]; · iexact a2
    isplitl [a3]; · iexact a3
    iexact a4
  iintro ⟨HO, c1, c2, c3⟩
  dsimp (config := { failIfUnchanged := false }) only
  iapply step_seq
  iapply (part15 I K c arg0 harg0 arg1 harg1 arg2 harg2 arg3 harg3 arg4 harg4 arg5 harg5 v2 _) $$ [HO f4 f5 f6 a5 a6 a7 g1]
  · isplitr; · iexact HI
    isplitr; · iexact Hlev
    isplitl [HO]; · iexact HO
    isplitl [f4]; · iexact f4
    isplitl [f5]; · iexact f5
    isplitl [f6]; · iexact f6
    isplitl [a5]; · iexact a5
    isplitl [a6]; · iexact a6
    isplitl [a7]; · iexact a7
    iexact g1
  iintro %v513 ⟨HO, c4, c5, c6, Hg, Hs⟩
  dsimp (config := { failIfUnchanged := false }) only
  iapply step_seq
  iapply (part16 I K c arg0 harg0 arg1 harg1 arg2 harg2 arg3 harg3 arg4 harg4 arg5 harg5 v2 v513 _) $$ [HO Ho Hs g2]
  · isplitr; · iexact HI
    isplitr; · iexact Hlev
    isplitl [HO]; · iexact HO
    isplitl [Ho]; · iexact Ho
    isplitl [Hs]; · iexact Hs
    iexact g2
  iintro %v549 ⟨HO, Ho, Hs, g2⟩
  dsimp (config := { failIfUnchanged := false }) only
  iapply step_seq
  iapply (part17 I K c arg0 harg0 arg1 harg1 arg2 harg2 arg3 harg3 arg4 harg4 arg5 harg5 v2 v549 _) $$ [HO Ho g3 g4]
  · isplitr; · iexact HI
    isplitr; · iexact Hlev
    isplitl [HO]; · iexact HO
    isplitl [Ho]; · iexact Ho
    isplitl [g3]; · iexact g3
    iexact g4
  iintro %v585 ⟨HO, Ho, g3, g4⟩
  dsimp (config := { failIfUnchanged := false }) only
  iapply step_seq
  iapply (part18 I K c arg0 harg0 arg1 harg1 arg2 harg2 arg3 harg3 arg4 harg4 arg5 harg5 v2 v585 _) $$ [HO Ho g5 g6]
  · isplitr; · iexact HI
    isplitr; · iexact Hlev
    isplitl [HO]; · iexact HO
    isplitl [Ho]; · iexact Ho
    isplitl [g5]; · iexact g5
    iexact g6
  iintro ⟨HO, Ho, g5, g6⟩
  dsimp (config := { failIfUnchanged := false }) only
  iapply step_seq
  iapply (part19 I K c arg0 harg0 arg1 harg1 arg2 harg2 arg3 harg3 arg4 harg4 arg5 harg5 v2 _) $$ [HO Ho g7 t0 p0 t1 p1 t2 p2 t3 p3]
  · isplitr; · iexact HI
    isplitr; · iexact Hlev
    isplitl [HO]; · iexact HO
    isplitl [Ho]; · iexact Ho
    isplitl [g7]; · iexact g7
    isplitl [t0]; · iexact t0
    isplitl [p0]; · iexact p0
    isplitl [t1]; · iexact t1
    isplitl [p1]; · iexact p1
    isplitl [t2]; · iexact t2
    isplitl [p2]; · iexact p2
    isplitl [t3]; · iexact t3
    iexact p3
  iintro ⟨HO, Ho, g7, m0, p0, m1, p1, m2, p2, m3, p3⟩
  dsimp (config := { failIfUnchanged := false }) only
  iapply step_seq
  iapply (part20 I K c arg0 harg0 arg1 harg1 arg2 harg2 arg3 harg3 arg4 harg4 arg5 harg5 v2 _) $$ [HO t4 p4 t5 p5 t6 p6 t7 p7 c0 q0 c1 q1 c2 q2 c3 q3]
  · isplitr; · iexact HI
    isplitr; · iexact Hlev
    isplitl [HO]; · iexact HO
    isplitl [t4]; · iexact t4
    isplitl [p4]; · iexact p4
    isplitl [t5]; · iexact t5
    isplitl [p5]; · iexact p5
    isplitl [t6]; · iexact t6
    isplitl [p6]; · iexact p6
    isplitl [t7]; · iexact t7
    isplitl [p7]; · iexact p7
    isplitl [c0]; · iexact c0
    isplitl [q0]; · iexact q0
    isplitl [c1]; · iexact c1
    isplitl [q1]; · iexact q1
    isplitl [c2]; · iexact c2
    isplitl [q2]; · iexact q2
    isplitl [c3]; · iexact c3
    iexact q3
  iintro ⟨HO, m4, p4, m5, p5, m6, p6, m7, p7, q0, f0, q1, f1, q2, f2, q3, f3⟩
  dsimp (config := { failIfUnchanged := false }) only
  simp only [Prog.lift, Prog.bind_op, Prog.bind_ret, Prog.bind_assoc]
  iapply (step_left I K c 4 (by decide) (oS := ![4]) rfl) $$ [HO c4 q4]
  · isplitr; · iexact HI
    isplitr; · iexact Hlev
    isplitl [HO]; · iexact HO
    isplitl [c4]; · iexact c4
    iexact q4
  iintro ⟨HO, q4, f4⟩
  iapply (step_left I K c 5 (by decide) (oS := ![5]) rfl) $$ [HO c5 q5]
  · isplitr; · iexact HI
    isplitr; · iexact Hlev
    isplitl [HO]; · iexact HO
    isplitl [c5]; · iexact c5
    iexact q5
  iintro ⟨HO, q5, f5⟩
  iapply (step_left I K c 6 (by decide) (oS := ![6]) rfl) $$ [HO c6 q6]
  · isplitr; · iexact HI
    isplitr; · iexact Hlev
    isplitl [HO]; · iexact HO
    isplitl [c6]; · iexact c6
    iexact q6
  iintro ⟨HO, q6, f6⟩
  ihave Hf := (show eight (fun i => fPart c i (Fb I c)) ⊢ own c fM (Fb I c) from .of_eq (fM_shares c (Fb I c)).symm) $$ [f0 f1 f2 f3 f4 f5 f6 f7]
  · unfold eight
    iframe
  unfold left seven eight leftPos
  iapply (step_ret (Q := Q))
  iapply Hk
  isplitl [HO]; · iexact HO
  isplitl [Hins]; · iexact Hins
  isplitl [Ho]; · iexact Ho
  isplitl [Hat]; · iexact Hat
  isplitl [m0 m1 m2 m3 m4 m5 m6 m7]
  · unfold sSlot; iframe
  isplitl [Hf]; · iexists (Fb I c); iexact Hf
  isplitl [r1 r2 r3 r4 r5 r6 r7]; · iframe
  isplitl [Hg Hs g2 g3 g4 g5 g6 g7]
  · isplitl [Hg Hs]
    · unfold gvOut
      isplitl [Hg]; · iexact Hg
      iexists (add1 (Fb I (c - 1)))
      iexact Hs
    iframe
  iframe

end Body

end Cert.KernelIdeal.Run

end
-- ==== Proof.Deal.lean ====
/- A buffer of eight slots is its slots; the device's own cells family by family; what the launch deals to each device. -/
module

public import proofs.«01_k».proof.Proof.Body

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Slots -/

/-- Where a slot's element lies in the buffer. -/
theorem slR_emb (j : Dev nD) (y : (slR j).shape.Idx) (a : Fin 3) : ((slR j).emb y a).val = (![j.val, 0, 0] : Fin 3 → ℕ) a + 1 * (y a).val := rfl

/-- The slot an element of the buffer lies in, and where. -/
def slotIx (i : S8x64x512.Idx) : (slR ⟨(i 0).val, (i 0).isLt⟩).shape.Idx := fun a => match a with
  | 0 => ⟨0, Nat.one_pos⟩
  | 1 => ⟨(i 1).val, (i 1).isLt⟩
  | 2 => ⟨(i 2).val, (i 2).isLt⟩

/-- An element is where its slot and its place in the slot say. -/
theorem slotIx_emb (i : S8x64x512.Idx) : (slR ⟨(i 0).val, (i 0).isLt⟩).emb (slotIx i) = i := by
  funext a
  refine Fin.ext ?_
  rw [slR_emb]
  match a with
  | 0 => show (i 0).val + 1 * 0 = _; omega
  | 1 => show 0 + 1 * (i 1).val = _; omega
  | 2 => show 0 + 1 * (i 2).val = _; omega

/-- An element of a slot has the slot's number first. -/
theorem slR_first (j : Dev nD) (y : (slR j).shape.Idx) : ((slR j).emb y 0).val = j.val := by
  rw [slR_emb]
  have : (y 0).val < 1 := (y 0).isLt
  show j.val + 1 * (y 0).val = _
  omega

/-- An element lies in slot `j` exactly when its first index is `j`. -/
theorem slR_mem (j : Dev nD) (i : S8x64x512.Idx) : i ∈ (slR j).set ↔ (i 0).val = j.val := by
  constructor
  · intro h
    obtain ⟨y, rfl⟩ := (slR j).exists_idx_of_mem h
    exact slR_first j y
  · intro h
    have e : j = ⟨(i 0).val, (i 0).isLt⟩ := Fin.ext h.symm
    subst e
    rw [← Rect.map_emb_univ]
    exact Finset.mem_map.mpr ⟨slotIx i, Finset.mem_univ _, slotIx_emb i⟩

/-- Different slots share no element. -/
theorem slR_disjoint (j k : Dev nD) (h : j ≠ k) : Disjoint (slR j).set (slR k).set :=
  Finset.disjoint_left.mpr fun i hj hk => h (Fin.ext (((slR_mem j i).mp hj).symm.trans ((slR_mem k i).mp hk)))

/-- The eight slots together are the whole buffer. -/
theorem slR_cover : (Finset.univ : Finset (Dev nD)).biUnion (fun j => (slR j).set) = Finset.univ := by
  ext i
  exact ⟨fun _ => Finset.mem_univ _, fun _ => Finset.mem_biUnion.mpr ⟨⟨(i 0).val, (i 0).isLt⟩, Finset.mem_univ _, (slR_mem _ i).mpr rfl⟩⟩

/-- A buffer of eight slots is handed out slot by slot. -/
theorem slots_split (c : Dev nD) (M : Memref sig .tc .vmem S8x64x512 .bf16) :
    iprop(∃ X, own (F := F) c M X) ⊢ bigSep Finset.univ fun j : Dev nD => iprop(∃ X, own (F := F) c (sl M j) X) := by
  refine exists_elim fun X => (owns_rects (Val := Elt F) (c : Thread nD τ) M fullShare slR (fun _ _ => rfl) slR_disjoint slR_cover X).trans ?_
  exact bigSep_mono fun j _ => exists_intro (Φ := fun Y => own (F := F) c (sl M j) Y) (fun y => X ((slR j).emb y))

/-- The eight slots make up the buffer. -/
theorem slots_join (c : Dev nD) (M : Memref sig .tc .vmem S8x64x512 .bf16) :
    (bigSep Finset.univ fun j : Dev nD => iprop(∃ X, own (F := F) c (sl M j) X)) ⊢ iprop(∃ X, own (F := F) c M X) := by
  haveI : ∀ e, Nonempty (Elt F e) := fun e => Elt.nonempty F e
  refine (bigSep_exists_pi (Y := fun _ : Dev nD => S1x64x512.Idx → Elt F .bf16) Finset.univ fun j X => own (F := F) c (sl M j) X).trans ?_
  show (_ : sProp 𝕄) ⊢ _
  iintro ⟨%f, H⟩
  iexists fun i : S8x64x512.Idx => f ⟨(i 0).val, (i 0).isLt⟩ (slotIx i)
  iapply (owns_of_rects (Val := Elt F) (c : Thread nD τ) M fullShare slR (fun _ _ => rfl) slR_disjoint slR_cover _)
  iapply (Entails.of_eq (bigSep_congr (s := Finset.univ) fun j _ => ?_)) $$ H
  show own (F := F) c (sl M j) (f j) = own (F := F) c (sl M j) _
  congr 1
  funext y
  have h := slR_first j y
  generalize hi : (slR j).emb y = i at h
  have e : j = ⟨(i 0).val, (i 0).isLt⟩ := Fin.ext h.symm
  subst e
  congr 1
  exact (slR _).emb.injective (hi.trans (slotIx_emb i).symm)

/-! ## What a device starts the kernel with -/

section Start

variable (c : Dev nD)

/-- A family for each device, shared out to all of them but `c`, and `c`'s own. -/
theorem own_apart (Φ : Dev nD → sProp 𝕄) : bigSep Finset.univ Φ = iprop(Φ c ∗ bigSep (Finset.univ.erase c) Φ) := bigSep_univ_at Φ c

/-- The four families of the device's own cells, one by one. -/
theorem families (Φ : Fin 4 → Dev nD → sProp 𝕄) : (bigSep Finset.univ fun x : Fin 4 × Dev nD => Φ x.1 x.2)
    = iprop(bigSep Finset.univ (Φ 0) ∗ bigSep Finset.univ (Φ 1) ∗ bigSep Finset.univ (Φ 2) ∗ bigSep Finset.univ (Φ 3)) := by
  rw [bigSep_univ_prod fun x : Fin 4 × Dev nD => Φ x.1 x.2, show (Finset.univ : Finset (Fin 4)) = {0, 1, 2, 3} from by decide,
    bigSep_insert (by decide), bigSep_insert (by decide), bigSep_insert (by decide), bigSep_singleton]
  rfl

/-- The duties dealt to the device: those its own signals and transfers fulfil. -/
def deal : sProp 𝕄 := bigSep Finset.univ fun j : Dev nD =>
  iprop(dutyTok ER (bcell j) 0 c ∗ dutyTok ER (dcell c 0 j) 0 j ∗ dutyTok ER (dcell j 1 c) 0 c ∗ dutyTok ER (dcell c 2 j) 0 j ∗ dutyTok ER (dcell j 3 c) 0 c)
/-- What it waits with. -/
def creds : sProp 𝕄 :=
  iprop(cred (tallyAt (bcell c) () 7) ∗ (bigSep (Finset.univ.erase c) fun j : Dev nD => cred (tallyAt (dcell c 1 j) () N))
    ∗ bigSep (Finset.univ.erase c) fun j : Dev nD => cred (tallyAt (dcell c 3 j) () N))
/-- Every barrier and every own cell is at its first round. -/
def firsts : sProp 𝕄 :=
  iprop((bigSep Finset.univ fun d : Dev nD => reached ER (bcell d) 0) ∗ bigSep Finset.univ fun x : Fin 4 × Dev nD => reached ER (dcell c x.1 x.2) 0)

/-- That the cells are at their first round may be used again and again. -/
instance firsts_persistent : BI.Persistent (firsts (F := F) c) := by unfold firsts; infer_instance

/-- Any barrier is at its first round. -/
theorem firsts_b (d : Dev nD) : firsts (F := F) c ⊢ reached ER (bcell d) 0 := by
  unfold firsts; exact sep_elim_left.trans (bigSep_elim (Φ := fun d : Dev nD => (reached ER (bcell d) 0 : sProp 𝕄)) (Finset.mem_univ d))
/-- Any of the device's own cells is at its first round. -/
theorem firsts_d (a : Fin 4) (j : Dev nD) : firsts (F := F) c ⊢ reached ER (dcell c a j) 0 := by
  unfold firsts
  exact sep_elim_right.trans (bigSep_elim (Φ := fun x : Fin 4 × Dev nD => (reached ER (dcell c x.1 x.2) 0 : sProp 𝕄)) (Finset.mem_univ (a, j)))

/-- A slot, whatever it holds. -/
abbrev anySlot (M : Memref sig .tc .vmem S8x64x512 .bf16) (j : Dev nD) : sProp 𝕄 := iprop(∃ X, own (F := F) c (sl M j) X)

/-- What the signals spend. -/
theorem make_sig : iprop(firsts (F := F) c ∗ bigSep (Finset.univ.erase c) fun j : Dev nD =>
      iprop(dutyTok ER (bcell j) 0 c ∗ anySlot (F := F) c rM j ∗ anySlot (F := F) c gM j)) ⊢ seven (sigTok (F := F) c) := by
  rw [show seven (sigTok (F := F) c) = bigSep (Finset.univ.erase c) fun j : Dev nD => iprop(dutyTok ER (bcell j) 0 c ∗ reached ER (bcell j) 0 ∗ barPay (F := F) j c)
    from (others_fwd (F := F) c fun j => iprop(dutyTok ER (bcell j) 0 c ∗ reached ER (bcell j) 0 ∗ barPay (F := F) j c)).symm]
  refine bigSep_with_persistent fun j _ => ?_
  unfold barPay
  show (_ : sProp 𝕄) ⊢ _
  iintro ⟨#H, Ht, Hr, Hg⟩
  isplitl [Ht]; · iexact Ht
  isplitr; · iapply (firsts_b (F := F) c j); iexact H
  isplitl [Hr]; · iexact Hr
  isplitl [Hg]; · iexact Hg
  isplitr; · iapply (firsts_d (F := F) c 1 j); iexact H
  iapply (firsts_d (F := F) c 3 j); iexact H

/-- What the first exchange's transfers spend. -/
theorem make_rs : iprop(firsts (F := F) c ∗ bigSep Finset.univ fun j : Dev nD => iprop(dutyTok ER (dcell c 0 j) 0 j ∗ dutyTok ER (dcell j 1 c) 0 c))
    ⊢ eight (rsDuty (F := F) c) := by
  rw [← eight_eq]
  refine bigSep_with_persistent fun j _ => ?_
  unfold rsDuty
  by_cases h : j = c
  · rw [if_pos h]
    show (_ : sProp 𝕄) ⊢ _
    iintro -
    iempintro
  · rw [if_neg h]
    show (_ : sProp 𝕄) ⊢ _
    iintro ⟨#H, Ht, Hr⟩
    isplitl [Ht]; · iexact Ht
    isplitr; · iapply (firsts_d (F := F) c 0 j); iexact H
    iexact Hr

/-- What the second exchange's transfers spend. -/
theorem make_ag : iprop(firsts (F := F) c ∗ (bigSep Finset.univ fun j : Dev nD => dutyTok ER (dcell c 2 j) 0 j)
      ∗ bigSep (Finset.univ.erase c) fun j : Dev nD => dutyTok ER (dcell j 3 c) 0 c) ⊢ seven (agDuty (F := F) c) := by
  have h : iprop(firsts (F := F) c ∗ bigSep (Finset.univ.erase 0) fun n : Dev nD => iprop(dutyTok ER (dcell c 2 (n - 1)) 0 (n - 1) ∗ dutyTok ER (dcell (c + n) 3 c) 0 c))
      ⊢ seven (agDuty (F := F) c) := by
    rw [← seven_eq]
    refine bigSep_with_persistent fun n _ => ?_
    unfold agDuty
    show (_ : sProp 𝕄) ⊢ _
    iintro ⟨#H, Ht, Hr⟩
    isplitl [Ht]; · iexact Ht
    isplitr; · iapply (firsts_d (F := F) c 2 (n - 1)); iexact H
    iexact Hr
  refine BIBase.Entails.trans ?_ h
  rw [bigSep_sep', seven_eq fun n : Dev nD => (dutyTok ER (dcell (c + n) 3 c) 0 c : sProp 𝕄), ← others_fwd (F := F) c fun j => dutyTok ER (dcell j 3 c) 0 c, seven_eq, eight_eq]
  unfold seven eight
  show (_ : sProp 𝕄) ⊢ _
  iintro ⟨#H, ⟨h0, h1, h2, h3, h4, h5, h6, -⟩, H3⟩
  isplitr; · iexact H
  isplitr [H3]
  · isplitl [h0]; · iexact h0
    isplitl [h1]; · iexact h1
    isplitl [h2]; · iexact h2
    isplitl [h3]; · iexact h3
    isplitl [h4]; · iexact h4
    isplitl [h5]; · iexact h5
    iexact h6
  iexact H3

/-- What the body has no use for: its own slots of what it receives, and the cells no transfer counts on. -/
def spare : sProp 𝕄 :=
  iprop(anySlot (F := F) c rM c ∗ anySlot (F := F) c gM c ∗ atPos ER (dcell c 1 c) 0 ∅ 0 ∗ atPos ER (dcell c 3 c) 0 ∅ 0 ∗ atPos ER (dcell c 2 7) 0 ∅ 0)

/-- A position at the start for each of the device's own cells. -/
def starts : sProp 𝕄 := bigSep Finset.univ fun x : Fin 4 × Dev nD => atPos ER (dcell c x.1 x.2) 0 ∅ 0

/-- The scratch buffers, whatever they hold. -/
def scratch : sProp 𝕄 :=
  iprop((∃ X, own (F := F) c sM X) ∗ (∃ X, own (F := F) c rM X) ∗ (∃ X, own (F := F) c gM X) ∗ ∃ X, own (F := F) c fM X)

/-- Of a received family, what the waits spend and the device's own cell. -/
theorem make_in (a : Fin 4) : (iprop((bigSep Finset.univ fun j : Dev nD => atPos ER (dcell c a j) 0 ∅ 0)
      ∗ bigSep (Finset.univ.erase c) fun j : Dev nD => cred (tallyAt (dcell c a j) () N)) : sProp 𝕄)
    ⊢ iprop(atPos ER (dcell c a c) 0 ∅ 0 ∗ seven fun n => iprop(cred (tallyAt (dcell c a (c - n)) () N) ∗ atPos ER (dcell c a (c - n)) 0 ∅ 0)) := by
  rw [← others_bwd (F := F) c fun j => iprop(cred (tallyAt (dcell c a j) () N) ∗ atPos ER (dcell c a j) 0 ∅ 0), bigSep_sep',
    own_apart c fun j : Dev nD => (atPos ER (dcell c a j) 0 ∅ 0 : sProp 𝕄)]
  iintro ⟨⟨H, Hr⟩, Hc⟩
  isplitl [H]; · iexact H
  isplitl [Hc]; · iexact Hc
  iexact Hr

/-- The cells, the duties and the scratch buffers make what the body is given. -/
theorem enter : iprop(firsts (F := F) c ∗ starts (F := F) c ∗ deal (F := F) c ∗ creds (F := F) c ∗ atPos ER (bcell c) 0 ∅ 0 ∗ scratch (F := F) c)
    ⊢ iprop(given (F := F) c ∗ spare (F := F) c) := by
  unfold starts deal creds scratch given spare
  rw [families (fun a j => (atPos ER (dcell c a j) 0 ∅ 0 : sProp 𝕄)), bigSep_sep', bigSep_sep', bigSep_sep', bigSep_sep']
  iintro ⟨#HF, ⟨Ha0, Ha1, Ha2, Ha3⟩, ⟨Tb, T0, T1, T2, T3⟩, ⟨Cb, C1, C3⟩, Hat, Hs, Hr, Hg, Hf⟩
  ihave Hs := (slots_split (F := F) c sM) $$ [Hs]; · iexact Hs
  ihave Hr := (slots_split (F := F) c rM) $$ [Hr]; · iexact Hr
  ihave Hg := (slots_split (F := F) c gM) $$ [Hg]; · iexact Hg
  ihave Hr := (BIBase.Entails.of_eq (own_apart c (anySlot (F := F) c rM))) $$ [Hr]; · iexact Hr
  ihave Hg := (BIBase.Entails.of_eq (own_apart c (anySlot (F := F) c gM))) $$ [Hg]; · iexact Hg
  ihave Tb := (BIBase.Entails.of_eq (own_apart c fun j : Dev nD => (dutyTok ER (bcell j) 0 c : sProp 𝕄))) $$ [Tb]; · iexact Tb
  ihave T3 := (BIBase.Entails.of_eq (own_apart c fun j : Dev nD => (dutyTok ER (dcell j 3 c) 0 c : sProp 𝕄))) $$ [T3]; · iexact T3
  icases Hr with ⟨Hrc, Hr⟩
  icases Hg with ⟨Hgc, Hg⟩
  icases Tb with ⟨-, Tb⟩
  icases T3 with ⟨-, T3⟩
  ihave G1 := (make_sig (F := F) c) $$ [Tb Hr Hg]
  · isplitr; · iexact HF
    rw [bigSep_sep', bigSep_sep']
    isplitl [Tb]; · iexact Tb
    isplitl [Hr]; · iexact Hr
    iexact Hg
  ihave G2 := (make_rs (F := F) c) $$ [T0 T1]
  · isplitr; · iexact HF
    rw [bigSep_sep']
    isplitl [T0]; · iexact T0
    iexact T1
  ihave G3 := (make_ag (F := F) c) $$ [T2 T3]
  · isplitr; · iexact HF
    isplitl [T2]; · iexact T2
    iexact T3
  ihave R := (make_in (F := F) c 1) $$ [Ha1 C1]
  · isplitl [Ha1]; · iexact Ha1
    iexact C1
  ihave G := (make_in (F := F) c 3) $$ [Ha3 C3]
  · isplitl [Ha3]; · iexact Ha3
    iexact C3
  icases R with ⟨R', R⟩
  icases G with ⟨G', G⟩
  ihave Hs := (BIBase.Entails.of_eq (eight_eq (sSlot (F := F) c))) $$ [Hs]; · iexact Hs
  ihave Ha2 := (BIBase.Entails.of_eq (eight_eq fun j : Dev nD => (atPos ER (dcell c 2 j) 0 ∅ 0 : sProp 𝕄))) $$ [Ha2]; · iexact Ha2
  ihave Ha0 := (BIBase.Entails.of_eq (eight_eq fun j : Dev nD => (atPos ER (dcell c 0 j) 0 ∅ 0 : sProp 𝕄))) $$ [Ha0]; · iexact Ha0
  unfold leftPos eight
  icases Ha2 with ⟨q0, q1, q2, q3, q4, q5, q6, q7⟩
  isplitr [Hrc Hgc R' G' q7]
  · isplitl [G1]; · iexact G1
    isplitl [Cb]; · iexact Cb
    isplitl [Hat]; · iexact Hat
    isplitl [G2]; · iexact G2
    isplitl [G3]; · iexact G3
    isplitl [Hs]; · iexact Hs
    isplitl [Hf]; · iexact Hf
    isplitl [R]; · unfold rvIn; iexact R
    isplitl [G]; · unfold gvIn; iexact G
    isplitl [Ha0]; · unfold rsPos; simp only [ite_self]; iexact Ha0
    iframe
  iframe

/-- Where each own cell ends. -/
def ends : sProp 𝕄 := bigSep Finset.univ fun x : Fin 4 × Dev nD => atPos ER (dcell c x.1 x.2) (if used c x.1 x.2 then 1 else 0) ∅ 0

/-- Of a received family, the cells' ends and the slots. -/
theorem make_out (a : Fin 4) (ha : ∀ j, used c a j ↔ j ≠ c) (M : Memref sig .tc .vmem S8x64x512 .bf16) :
    iprop(anySlot (F := F) c M c ∗ atPos ER (dcell c a c) 0 ∅ 0 ∗ seven fun n => iprop(atPos ER (dcell c a (c - n)) 1 ∅ 0 ∗ anySlot (F := F) c M (c - n)))
    ⊢ iprop((bigSep Finset.univ fun j : Dev nD => atPos ER (dcell c a j) (if used c a j then 1 else 0) ∅ 0) ∗ bigSep Finset.univ (anySlot (F := F) c M)) := by
  rw [← others_bwd (F := F) c fun j => iprop(atPos ER (dcell c a j) 1 ∅ 0 ∗ anySlot (F := F) c M j), bigSep_sep',
    own_apart c fun j : Dev nD => (atPos ER (dcell c a j) (if used c a j then 1 else 0) ∅ 0 : sProp 𝕄), own_apart c (anySlot (F := F) c M),
    if_neg (fun h => (ha c).mp h rfl), bigSep_congr (Φ := fun j : Dev nD => (atPos ER (dcell c a j) (if used c a j then 1 else 0) ∅ 0 : sProp 𝕄))
      (Ψ := fun j : Dev nD => (atPos ER (dcell c a j) 1 ∅ 0 : sProp 𝕄)) (s := Finset.univ.erase c)
      fun j hj => by rw [if_pos ((ha j).mpr (Finset.ne_of_mem_erase hj))]]
  iintro ⟨Hs, Hc, Ha, Hr⟩
  iframe

/-- What the body leaves makes the cells' ends and the scratch buffers. -/
theorem exit : iprop(left (F := F) c ∗ spare (F := F) c) ⊢ iprop(atPos ER (bcell c) 1 ∅ 0 ∗ ends (F := F) c ∗ scratch (F := F) c) := by
  unfold left spare ends scratch
  rw [families (fun a j => (atPos ER (dcell c a j) (if used c a j then 1 else 0) ∅ 0 : sProp 𝕄))]
  have hk (k : Dev nD) : (if used c 0 k then 1 else 0) = if k = c then 0 else 1 := by revert c k; decide
  iintro ⟨⟨Hat, Hs, Hf, R, G, P, L⟩, Hrc, Hgc, R', G', q7⟩
  ihave R := (make_out (F := F) c 1 (fun j => by unfold used; rw [if_neg (by decide)]) rM) $$ [Hrc R' R]
  · isplitl [Hrc]; · iexact Hrc
    isplitl [R']; · iexact R'
    unfold rvOut; iexact R
  ihave G := (make_out (F := F) c 3 (fun j => by unfold used; rw [if_neg (by decide)]) gM) $$ [Hgc G' G]
  · isplitl [Hgc]; · iexact Hgc
    isplitl [G']; · iexact G'
    unfold gvOut; iexact G
  icases R with ⟨R, Hr⟩
  icases G with ⟨G, Hg⟩
  isplitl [Hat]; · iexact Hat
  isplitl [P L q7 R G]
  · isplitl [P]
    · rw [eight_eq]
      unfold rsPos
      simp only [hk]
      iexact P
    isplitl [R]; · iexact R
    isplitl [L q7]
    · rw [eight_eq]
      unfold leftPos eight used
      icases L with ⟨q0, q1, q2, q3, q4, q5, q6⟩
      isplitl [q0]; · iexact q0
      isplitl [q1]; · iexact q1
      isplitl [q2]; · iexact q2
      isplitl [q3]; · iexact q3
      isplitl [q4]; · iexact q4
      isplitl [q5]; · iexact q5
      isplitl [q6]; · iexact q6
      iexact q7
    iexact G
  isplitl [Hs]
  · iapply (slots_join (F := F) c sM)
    rw [eight_eq]
    iexact Hs
  isplitl [Hr]; · iapply (slots_join (F := F) c rM); iexact Hr
  isplitl [Hg]; · iapply (slots_join (F := F) c gM); iexact Hg
  iexact Hf

end Start

end Cert.KernelIdeal.Run

end
-- ==== Proof.Region.lean ====
/-
  The kernel's one region: what its windows hold, that its body does what is stated of it, and its record for the launch.
-/
module

public import proofs.«01_k».proof.Proof.Deal
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

/-- A fetch of an uncut window at block index zero fills the buffer with the array. -/
theorem fill_at_zero (w : Fin 6) (t : Fin cfg0.N) (c : Dev nD) (d : (cfg0.win w).block.Idx → Elt F (cfg0.win w).elt)
    (A : Buf (Elt F) ((cfg0.win w).arr.view.loc (c.tc : Thread nD τ))) (j : (cfg0.win w).block.Idx)
    (i : (cfg0.win w).shape.Idx) (hi : ∀ a, (i a).val = (j a).val) (hm : (cfg0.win w).moved (cfg0.grid.coords t) j = true) (h0 : ∀ a, (cfg0.win w).index t a = 0) :
    (cfg0.win w).fill (cfg0.grid.coords t) d (((cfg0.win w).blk t).view.read (Elt F) A) j = (cfg0.win w).arr.view.read (Elt F) A i := by
  unfold Pipeline.Window.fill
  rw [dif_pos hm]
  show (cfg0.win w).arr.view.read (Elt F) A _ = _
  congr 1
  funext a
  exact Fin.ext ((Pipeline.Window.rect_emb_val_of_index_zero _ t a (h0 a) _).trans (hi a).symm)

section Data

variable (m : (ℓ : Loc nD τ sig) → Buf (Elt F) ℓ) (c : Dev nD)

/-- What the region is given on device `c`. -/
def vals (c : Dev nD) : Ins F := ⟨V1 m c main_v5, V1 m c main_arg1, V1 m c main_v17, V1 m c main_v19, V1 m c main_arg4⟩

/-- What the region leaves. -/
def outs : Outs (F := F) := fun _ r c => Function.update (V1 m c) (main_v20 : DevRef τ sig) (outF (vals m) c) r

/-- The region leaves the final contents of the output's window. -/
theorem outs_at (n : ℕ) : outs m n main_v20 c = outF (vals m) c := Function.update_self ..

/-- What the region starts with beside its windows. -/
def enters : sProp 𝕄 := iprop((∃ K, recs' (vals m) K) ∗ levAts L lv ∗ given (F := F) c ∗ spare (F := F) c ∗ ∃ r, prngReg c r)
/-- What it ends with. -/
def leaves : sProp 𝕄 := iprop(semVal (bcell c) 0 ∗ (bigSep Finset.univ fun x : Fin 4 × Dev nD => semVal (dcell c x.1 x.2) 0) ∗ scratch (F := F) c ∗ ∃ r, prngReg c r)

/-- The region's data: each window's array holds what the host left, and the body fills the output's. -/
def dat : Dat τ (Elt F) Unit ℕ UU ℕ cfg0 c where
  A
    | 0 => V1 m c main_v5 | 1 => V1 m c main_arg1 | 2 => V1 m c main_v17 | 3 => V1 m c main_v19 | 4 => V1 m c main_arg4 | 5 => V1 m c main_v20
  after
    | 0 => fun _ => (vals m c).x | 1 => fun _ => (vals m c).wq | 2 => fun _ => (vals m c).kh | 3 => fun _ => (vals m c).vh | 4 => fun _ => (vals m c).wo
    | 5 => fun _ => outF (vals m) c
  Φ t := if t.val = 0 then enters m c else leaves (F := F) c
  q _ := fullShare
  owed t := if t.val = 0 then O₀ c else 0

/-- At the body's start an input window holds its array's contents. -/
theorem before_in (w : Fin 6) (hw : w ≠ 5) (d) : (dat m c).before w t0_0 d = (dat m c).after w t0_0 := by
  have hf : (cfg0.win w).fetch t0_0 = true := match w with
    | 0 => fetch0_0 _ | 1 => fetch0_1 _ | 2 => fetch0_2 _ | 3 => fetch0_3 _ | 4 => fetch0_4 _ | 5 => absurd rfl hw
  unfold Dat.before
  rw [if_pos hf]
  funext j
  match w with
  | 0 | 1 | 2 | 3 | 4 => exact fill_at_zero _ t0_0 c d _ j j (fun _ => rfl) rfl (fun _ => rfl)
  | 5 => exact absurd rfl hw

/-- The cells, closed at their ends. -/
theorem shut (K : GSem nD τ sig → ℕ) : iprop(recs' (vals m) K ∗ atPos ER (bcell c) 1 ∅ 0 ∗ ends (F := F) c)
    ⊢ (|={Set.univ}=> iprop(semVal (bcell c) 0 ∗ bigSep Finset.univ fun x : Fin 4 × Dev nD => semVal (dcell c x.1 x.2) 0) : sProp 𝕄) := by
  unfold ends
  iintro ⟨#HR, Hb, He⟩
  imod (cell_close ER (rd (P (vals m)) (Fb (vals m))) (g := bcell c) (κ := K (bcell c)) (Set.mem_univ _) id fun r hr => duties_later _ _ _ r hr) $$ [Hb] with Hb
  · isplitr; · iapply (recs_b (P (vals m)) (Fb (vals m)) K c); iexact HR
    iexact Hb
  imod (cells_close ER (rd (P (vals m)) (Fb (vals m))) Finset.univ (fun x : Fin 4 × Dev nD => dcell c x.1 x.2) (fun x => K (dcell c x.1 x.2)) (fun _ _ => Set.mem_univ _)
    (fun _ _ => id) (fun x => if used c x.1 x.2 then 1 else 0) fun x _ r hr => by
      by_cases h : used c x.1 x.2
      · rw [if_pos h] at hr; exact duties_later _ _ _ r hr
      · exact duties_unused _ _ c x.1 x.2 h r) $$ [He] with Hd
  · iapply (bigSep_with_persistent (R := recs' (vals m) K) (Φ := fun x : Fin 4 × Dev nD => (atPos ER (dcell c x.1 x.2) (if used c x.1 x.2 then 1 else 0) ∅ 0 : sProp 𝕄))
      (S := Finset.univ) (fun x _ => sep_mono_left (recs_d (P (vals m)) (Fb (vals m)) K c x.1 x.2)))
    isplitr; · iexact HR
    iexact He
  imodintro
  isplitl [Hb]; · iexact Hb
  iexact Hd

/-- The body, from the region's start to its end. -/
theorem body_all (arg0 : Memref sig .tc .vmem S512x512 .f32) (harg0 : arg0.IsWhole) (arg1 : Memref sig .tc .vmem S512x256 .f32) (harg1 : arg1.IsWhole)
    (arg2 : Memref sig .tc .vmem S8x256x64 .f32) (harg2 : arg2.IsWhole) (arg3 : Memref sig .tc .vmem S8x256x64 .f32) (harg3 : arg3.IsWhole)
    (arg4 : Memref sig .tc .vmem S256x512 .f32) (harg4 : arg4.IsWhole) (arg5 : Memref sig .tc .vmem S512x512 .f32) (harg5 : arg5.IsWhole)
    (G : S512x512.Idx → Elt F .f32) (Q : PUnit → sProp 𝕄) :
    iprop(enters m c ∗ ow c (O₀ c) ∗ ins c arg0 arg1 arg2 arg3 arg4 (vals m c) ∗ own c arg5 G)
      ⊢ iprop((leaves (F := F) c ∗ ow c 0 ∗ ins c arg0 arg1 arg2 arg3 arg4 (vals m c) ∗ own c arg5 (outF (vals m) c) -∗ Q ⟨⟩)
        -∗ WP c (cc0_body arg0 harg0 arg1 harg1 arg2 harg2 arg3 harg3 arg4 harg4 arg5 harg5 sM (Memref.isWhole_whole _) rM (Memref.isWhole_whole _)
          gM (Memref.isWhole_whole _) fM (Memref.isWhole_whole _) cc0_scratch4 cc0_scratch5 cc0_scratch6 cc0_scratch7) Q) := by
  unfold enters leaves
  iintro ⟨⟨⟨%K, #HR⟩, #Hlev, Hgiven, Hspare, Hp⟩, HO, Hins, Ho⟩ Hk
  iapply (wp_fupd (Q := Q))
  iapply (body_run (vals m) K c arg0 harg0 arg1 harg1 arg2 harg2 arg3 harg3 arg4 harg4 arg5 harg5 G _) $$ [HO Hins Ho Hgiven]
  · isplitr; · iexact HR
    isplitr; · iexact Hlev
    isplitl [HO]; · iexact HO
    isplitl [Hins]; · iexact Hins
    isplitl [Ho]; · iexact Ho
    iexact Hgiven
  iintro ⟨HO, Hins, Ho, Hleft⟩
  ihave H := (exit (F := F) c) $$ [Hleft Hspare]
  · isplitl [Hleft]; · iexact Hleft
    iexact Hspare
  icases H with ⟨Hat, He, Hs⟩
  imod (shut m c K) $$ [Hat He] with ⟨Hb, Hd⟩
  · isplitr; · iexact HR
    isplitl [Hat]; · iexact Hat
    iexact He
  imodintro
  iapply Hk
  isplitl [Hb Hd Hs Hp]
  · isplitl [Hb]; · iexact Hb
    isplitl [Hd]; · iexact Hd
    isplitl [Hs]; · iexact Hs
    iexact Hp
  isplitl [HO]; · iexact HO
  isplitl [Hins]; · iexact Hins
  iexact Ho

/-- The device's debts in the region's wording. -/
theorem owes_in (t : Fin (cfg0.N + 1)) : ow c ((dat m c).owed t) ⊢ (dat m c).owesAt () t := by
  unfold ow Dat.owesAt Pipeline.owesWithin Dat.bound
  iintro ⟨%W, H⟩
  iexists W
  isplitr; · ipureintro; exact fun _ _ => Or.inl trivial
  iexact H
/-- And back from it. -/
theorem owes_out (t : Fin (cfg0.N + 1)) : (dat m c).owesAt () t ⊢ ow c ((dat m c).owed t) := by
  unfold ow Dat.owesAt Pipeline.owesWithin
  iintro ⟨%W, -, H⟩
  iexists W
  iexact H

/-- Before the body the device has what it starts with. -/
theorem Φ_first (t : Fin (cfg0.N + 1)) (h : t.val = 0) : (dat m c).Φ t = enters m c := by dsimp only [dat]; rw [if_pos h]
/-- After the body it has what it ends with. -/
theorem Φ_last (t : Fin (cfg0.N + 1)) (h : t.val ≠ 0) : (dat m c).Φ t = leaves (F := F) c := by dsimp only [dat]; rw [if_neg h]
/-- Before the body it owes all. -/
theorem owed_first (t : Fin (cfg0.N + 1)) (h : t.val = 0) : (dat m c).owed t = O₀ c := by dsimp only [dat]; rw [if_pos h]
/-- After the body it owes nothing. -/
theorem owed_last (t : Fin (cfg0.N + 1)) (h : t.val ≠ 0) : (dat m c).owed t = 0 := by dsimp only [dat]; rw [if_neg h]

set_option maxHeartbeats 2000000 in
/-- The body does what the region's data says. -/
theorem body_ok : BodyObligation (dat m c) defs₀ 𝒱₀ () Set.univ := fun t => by
  obtain rfl := fin_N0 t
  rw [bigSep_W0, bigSep_W0]
  rw [Φ_first m c t0_0.castSucc rfl, Φ_last m c t0_0.succ (Nat.succ_ne_zero _)]
  dsimp only
  simp only [before_in m c 0 (by decide), before_in m c 1 (by decide), before_in m c 2 (by decide), before_in m c 3 (by decide), before_in m c 4 (by decide)]
  iintro ⟨HΦ, HO, ⟨%d0, H0⟩, ⟨%d1, H1⟩, ⟨%d2, H2⟩, ⟨%d3, H3⟩, ⟨%d4, H4⟩, ⟨%d5, H5⟩⟩
  ihave HO := (owes_out m c t0_0.castSucc) $$ [HO]; · iexact HO
  rw [owed_first m c t0_0.castSucc rfl]
  iapply (body_all m c _ (hstage0_0 0) _ (hstage0_1 0) _ (hstage0_2 0) _ (hstage0_3 0) _ (hstage0_4 0) _ (hstage0_5 0) ((dat m c).before 5 t0_0 d5) _) $$ [HΦ HO H0 H1 H2 H3 H4 H5]
  · isplitl [HΦ]; · iexact HΦ
    isplitl [HO]; · iexact HO
    isplitr [H5]
    · unfold ins
      isplitl [H0]; · iexact H0
      isplitl [H1]; · iexact H1
      isplitl [H2]; · iexact H2
      isplitl [H3]; · iexact H3
      iexact H4
    iexact H5
  unfold ins
  iintro ⟨HΦ, HO, ⟨H0, H1, H2, H3, H4⟩, H5⟩
  isplitl [HΦ]; · iexact HΦ
  isplitl [HO]; · iapply (owes_in m c t0_0.succ); rw [owed_last m c t0_0.succ (Nat.succ_ne_zero _)]; iexact HO
  isplitl [H0]; · iexact H0
  isplitl [H1]; · iexact H1
  isplitl [H2]; · iexact H2
  isplitl [H3]; · iexact H3
  isplitl [H4]; · iexact H4
  iexact H5

end Data

end Cert.KernelIdeal.Run

end
-- ==== Proof.Credit.lean ====
/-
  What the launch credits each device with: a unit of each other device at its barrier, a chunk's bytes at each receive cell.
-/
module

public import proofs.«01_k».proof.Proof.Deal
public import Idealize.ShloMosaic.Lib.Pipeline.Launch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal.Gen

variable {F : FTy → Type} [FloatOps F]

local notation "𝕄" => MT nD τ sig Unit (Elt F) ℕ UU ℕ

/-- A sum of tallies at a cell. -/
theorem sumT_at (l : List (CellTallies nD τ sig Unit)) (g : GSem nD τ sig) : sumT l g () = (l.map fun a => a g ()).sum := by
  induction l with
  | nil => rfl
  | cons a l ih => rw [List.map_cons, List.sum_cons, ← ih, Nat.add_comm]; rfl

/-- Two devices with one barrier cell are the same device. -/
theorem bcell_eq {c d : Dev nD} : bcell c = bcell d ↔ c = d :=
  ⟨fun h => congrArg (fun g : GSem nD τ sig => g.1.1) h, fun h => by rw [h]⟩
/-- Two transfer cells are the same only for the same device, family and number. -/
theorem dcell_eq {c d : Dev nD} {a b : Fin 4} {i j : Dev nD} : dcell c a i = dcell d b j ↔ c = d ∧ a = b ∧ i = j := by
  refine ⟨fun h => ⟨congrArg (fun g : GSem nD τ sig => g.1.1) h, ?_⟩, fun h => by rw [h.1, h.2.1, h.2.2]⟩
  exact dsem_inj a b i j (SemLoc.dma.inj (congrArg Prod.snd h))
/-- A barrier cell is not a transfer cell. -/
theorem bcell_ne (c d : Dev nD) (a : Fin 4) (j : Dev nD) : bcell c ≠ dcell d a j := fun h => nomatch congrArg Prod.snd h

/-- The unit signalled to the device `n` further on lies on that device's barrier. -/
theorem barT_bar (d n c : Dev nD) : barT d n (bcell c) () = if d + n = c then 1 else 0 := by
  unfold barT; rw [tallyAt_apply]; exact if_congr ⟨fun h => (bcell_eq.mp h.1).symm, fun h => ⟨bcell_eq.mpr h.symm, rfl⟩⟩ rfl rfl
/-- A barrier unit puts nothing on a transfer cell. -/
theorem barT_dma (d n c : Dev nD) (a : Fin 4) (j : Dev nD) : barT d n (dcell c a j) () = 0 := by
  unfold barT; rw [tallyAt_apply, if_neg fun h => bcell_ne _ _ _ _ h.1.symm]
/-- A transfer of the first exchange puts nothing on a barrier. -/
theorem rsT_bar (d k c : Dev nD) : rsT d k (bcell c) () = 0 := by
  unfold rsT; split
  · rfl
  · rw [tallyAt_apply, if_neg fun h => bcell_ne _ _ _ _ h.1]
/-- A transfer of the first exchange adds to the target's receive cell for the sender and to no other; to none where the target is the sender. -/
theorem rsT_dma (d k c : Dev nD) (a : Fin 4) (j : Dev nD) : rsT d k (dcell c a j) () = (if k ≠ d ∧ c = k ∧ a = 1 ∧ j = d then 1 else 0) * N := by
  unfold rsT
  by_cases h : k = d
  · rw [if_pos h, if_neg fun h' => h'.1 h, Nat.zero_mul]; rfl
  · rw [if_neg h, tallyAt_apply, ite_mul, Nat.one_mul, Nat.zero_mul]
    simp only [dcell_eq, and_true, h, ne_eq, not_false_eq_true, true_and]
/-- A transfer of the second exchange puts nothing on a barrier. -/
theorem agT_bar (d n c : Dev nD) : agT d n (bcell c) () = 0 := by
  unfold agT; rw [tallyAt_apply, if_neg fun h => bcell_ne _ _ _ _ h.1]
/-- A transfer of the second exchange adds to the target's receive cell for the sender. -/
theorem agT_dma (d n c : Dev nD) (a : Fin 4) (j : Dev nD) : agT d n (dcell c a j) () = (if c = d + n ∧ a = 3 ∧ j = d then 1 else 0) * N := by
  unfold agT; rw [tallyAt_apply, ite_mul, Nat.one_mul, Nat.zero_mul]
  simp only [dcell_eq, and_true]

/-- What device `d` owes a barrier. -/
theorem owes_bar (d c : Dev nD) : O₀ d (bcell c) () = (([1, 2, 3, 4, 5, 6, 7] : List (Dev nD)).map fun n => if d + n = c then 1 else 0).sum := by
  rw [sumT_at, List.map_append, List.map_append, List.sum_append, List.sum_append, List.map_map, List.map_map, List.map_map]
  simp only [Function.comp_def, barT_bar, rsT_bar, agT_bar, List.map_const', List.sum_replicate, smul_zero, Nat.add_zero]

/-- What it owes an own cell of device `c`. -/
theorem owes_dma (d c : Dev nD) (a : Fin 4) (j : Dev nD) : O₀ d (dcell c a j) ()
    = ((([0, 1, 2, 3, 4, 5, 6, 7] : List (Dev nD)).map fun k => if k ≠ d ∧ c = k ∧ a = 1 ∧ j = d then 1 else 0).sum
      + (([1, 2, 3, 4, 5, 6, 7] : List (Dev nD)).map fun n => if c = d + n ∧ a = 3 ∧ j = d then 1 else 0).sum) * N := by
  rw [sumT_at, List.map_append, List.map_append, List.sum_append, List.sum_append, List.map_map, List.map_map, List.map_map]
  simp only [Function.comp_def, barT_dma, rsT_dma, agT_dma, List.map_const', List.sum_replicate, smul_zero, Nat.zero_add, List.sum_map_mul_right, Nat.add_mul]

/-- All the devices' dues at a barrier: one unit of each other device. -/
theorem credit_bar (c : Dev nD) : tallyOn (bcell c) (launchCredit (Pipeline.owing O₀) 0 (bcell c)) = (tallyAt (bcell c) () 7 : CellTallies nD τ sig Unit) := by
  unfold tallyAt
  refine congrArg _ (Finsupp.ext fun u => ?_)
  cases u
  rw [Pipeline.launchCredit_owing, Finsupp.single_eq_same, Finset.sum_congr rfl fun d _ => owes_bar d c]
  revert c
  decide +kernel

/-- All their dues at a receive cell: one chunk. -/
theorem credit_dma (c : Dev nD) (a : Fin 4) (j : Dev nD) (ha : a = 1 ∨ a = 3) (h : j ≠ c) :
    tallyOn (dcell c a j) (launchCredit (Pipeline.owing O₀) 0 (dcell c a j)) = (tallyAt (dcell c a j) () N : CellTallies nD τ sig Unit) := by
  unfold tallyAt
  refine congrArg _ (Finsupp.ext fun u => ?_)
  cases u
  rw [Pipeline.launchCredit_owing, Finsupp.single_eq_same, Finset.sum_congr rfl fun d _ => owes_dma d c a j, ← Finset.sum_mul]
  refine (congrArg (· * N) (?_ : _ = 1)).trans (Nat.one_mul N)
  revert c a j
  decide +kernel

/-- The own semaphores, numbered. -/
abbrev osem (x : Fin 4 × Dev nD) : SemLoc sig := .dma (dsem x.1 x.2)

/-- Different families or numbers give different semaphores. -/
theorem osem_inj : Function.Injective osem := fun x y h => by
  have := dsem_inj _ _ _ _ (SemLoc.dma.inj h)
  exact Prod.ext this.1 this.2

/-- The launch's credit to device `c` is what its waits spend. -/
theorem creds_of (c : Dev nD) : (Pipeline.launchCred O₀ c : sProp 𝕄) ⊢ creds (F := F) c := by
  have h (a : Fin 4) (ha : a = 1 ∨ a = 3) : (bigSep (Finset.univ.erase c) fun j : Dev nD => (cred (tallyAt (dcell c a j) () N) : sProp 𝕄))
      = bigSep ((Finset.univ.erase c).map ⟨fun j => osem (a, j), fun i j h => (Prod.ext_iff.mp (osem_inj h)).2⟩)
          fun sm => cred (tallyOn ((c : Thread nD τ), sm) (launchCredit (Pipeline.owing O₀) 0 ((c : Thread nD τ), sm))) := by
    rw [bigSep_map]
    exact bigSep_congr fun j hj => by rw [← credit_dma c a j ha (Finset.ne_of_mem_erase hj)]; rfl
  unfold Pipeline.launchCred creds
  rw [bigSep_univ_at _ (SemLoc.reg barS), credit_bar, h 1 (.inl rfl), h 3 (.inr rfl)]
  refine sep_mono_right ((bigSep_subset ?_).trans (BIBase.Entails.of_eq (bigSep_union ?_)))
  · intro sm hsm
    refine Finset.mem_erase.mpr ⟨fun h => ?_, Finset.mem_univ _⟩
    subst h
    rcases Finset.mem_union.mp hsm with h | h <;> (obtain ⟨j, -, h⟩ := Finset.mem_map.mp h; exact nomatch h)
  · rw [Finset.disjoint_left]
    intro sm h1 h3
    obtain ⟨i, -, h1⟩ := Finset.mem_map.mp h1
    obtain ⟨j, -, h3⟩ := Finset.mem_map.mp h3
    exact absurd (Prod.ext_iff.mp (osem_inj (h1.trans h3.symm))).1 (by decide : ¬ (1 : Fin 4) = 3)

end Cert.KernelIdeal.Run

end
-- ==== Proof.Record.lean ====
/-
  The region's record for the launch: what it is entered with, how its cells are opened, and what it is left with.
-/
module

public import proofs.«01_k».proof.Proof.Region
public import proofs.«01_k».proof.Proof.Credit

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

variable (m : (ℓ : Loc nD τ sig) → Buf (Elt F) ℓ)

/-- The data of the program's one region. -/
abbrev pdats : (p : Fin 1) → (c : Dev nD) → Dat τ (Elt F) Unit ℕ UU ℕ (cfgs p) c := fun | 0 => dat m | ⟨_ + 1, h⟩ => absurd h (Nat.not_lt.2 (Nat.le_add_left _ _))

/-- What device `c` brings to the region: its cells not yet opened, its duties and its credit. -/
def brings (c : Dev nD) : sProp 𝕄 :=
  iprop((∃ K, recs' (vals m) K) ∗ (bigSep Finset.univ fun d : Dev nD => reached ER (bcell d) 0) ∗ atPos ER (bcell c) 0 ∅ 0
    ∗ (bigSep Finset.univ fun x : Fin 4 × Dev nD => openTok ER (dcell c x.1 x.2)) ∗ deal (F := F) c ∗ creds (F := F) c)

/-- The same with its cells opened. -/
def ready (c : Dev nD) : sProp 𝕄 :=
  iprop((∃ K, recs' (vals m) K) ∗ levAts L lv ∗ firsts (F := F) c ∗ starts (F := F) c ∗ deal (F := F) c ∗ creds (F := F) c ∗ atPos ER (bcell c) 0 ∅ 0)

/-- Opening the cells. -/
theorem open_all (c : Dev nD) : iprop(brings m c ∗ Pipeline.ownSems0 osem c ∗ levAts L lv) ⊢ (|={Set.univ}=> ready m c : sProp 𝕄) := by
  unfold brings ready Pipeline.ownSems0 firsts starts
  iintro ⟨⟨⟨%K, #HR⟩, #Hb, Hat, Ho, Hd, Hc⟩, Hs, #Hl⟩
  imod (cells_open ER (rd (P (vals m)) (Fb (vals m))) Finset.univ (fun x : Fin 4 × Dev nD => dcell c x.1 x.2) (fun x => K (dcell c x.1 x.2)) (fun _ _ => Set.mem_univ _)) $$ [Ho Hs] with H
  · isplitr [Hs]
    · iapply (bigSep_with_persistent (R := recs' (vals m) K) (Φ := fun x : Fin 4 × Dev nD => (openTok ER (dcell c x.1 x.2) : sProp 𝕄))
        (S := Finset.univ) (fun x _ => sep_mono_left (recs_d (P (vals m)) (Fb (vals m)) K c x.1 x.2)))
      isplitr; · iexact HR
      iexact Ho
    iexact Hs
  ihave H := (BIBase.Entails.of_eq (bigSep_sep' Finset.univ (fun x : Fin 4 × Dev nD => (atPos ER (dcell c x.1 x.2) 0 ∅ 0 : sProp 𝕄)) (fun x => reached ER (dcell c x.1 x.2) 0))) $$ [H]
  · iexact H
  icases H with ⟨Ha, #Hr⟩
  imodintro
  isplitr; · iexists K; iexact HR
  isplitr; · iexact Hl
  isplitr
  · isplitr; · iexact Hb
    iexact Hr
  isplitl [Ha]; · iexact Ha
  isplitl [Hd]; · iexact Hd
  isplitl [Hc]; · iexact Hc
  iexact Hat

/-- The scratch buffers, as the launch lists them. -/
theorem scratch_eq (c : Dev nD) : (Pipeline.scopedRest (Pipeline.pin (pcfgs (F := F)) adm 0).spec c : sProp 𝕄) = scratch (F := F) c := by
  unfold scratch own
  simp only [owns_whole]
  exact scopedRest0_eq (Val := Elt F) c

/-- What the region is given is what its body starts with. -/
theorem region_in (c : Dev nD) : iprop(Pipeline.scopedRest (Pipeline.pin (pcfgs (F := F)) adm 0).spec c ∗ (∃ r, prngReg c r) ∗ StableHlo.held (c.tc : Thread nD τ) ∅ (V1 m c) ∗ ready m c)
    ⊢ (pdats m 0 c).Φ 0 := by
  rw [show (pdats m 0 c).Φ 0 = enters m c from Φ_first m c 0 rfl, scratch_eq]
  unfold ready enters
  iintro ⟨Hs, Hp, -, HK, #Hl, #Hf, Ha, Hd, Hc, Hat⟩
  ihave H := (enter (F := F) c) $$ [Hs Ha Hd Hc Hat]
  · isplitr; · iexact Hf
    isplitl [Ha]; · iexact Ha
    isplitl [Hd]; · iexact Hd
    isplitl [Hc]; · iexact Hc
    isplitl [Hat]; · iexact Hat
    iexact Hs
  icases H with ⟨Hg, Hs⟩
  isplitl [HK]; · iexact HK
  isplitr; · iexact Hl
  isplitl [Hg]; · iexact Hg
  isplitl [Hs]; · iexact Hs
  iexact Hp

/-- What its body ends with is what the region gives back, every semaphore at zero. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ semVal (bcell c) 0) := by
  rw [show (pdats m 0 c).Φ (Fin.last _) = leaves (F := F) c from Φ_last m c _ (by show grid0.N ≠ 0; rw [N_0]; decide), scratch_eq]
  unfold leaves Pipeline.ownSems0 StableHlo.held
  rw [bigSep_empty]
  iintro ⟨Hb, Hd, Hs, Hp⟩
  isplitl [Hs]; · iexact Hs
  isplitl [Hp]; · iexact Hp
  isplitr; · iempintro
  isplitl [Hd]; · iexact Hd
  iexact Hb

/-- The facts about the region's windows that its launch asks for. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the arrays hold at the region's entry. -/
theorem arr_first (c : Dev nD) (w : Fin 6) : (dat m c).arrAt w 0 = V1 m c (Proc.devRef .tc (Pipeline.arrRef spec0 w)) :=
  match w with
  | 0 | 1 | 2 | 3 | 4 | 5 => rfl

/-- The output's array is what the body left. -/
theorem out_last (c : Dev nD) (D : Dat τ (Elt F) Unit ℕ UU ℕ cfg0 c) (X : S512x512.Idx → Elt F .f32) (h : D.after 5 t0_0 = X) : D.arrAt 5 cfg0.N = X :=
  D.arrAt_eq_of_after_last 5 t0_0 (by decide +kernel) X fun j => by
    rw [h]
    rfl

/-- After the region the output's array holds what the body left in its window. -/
theorem V2_out (c : Dev nD) : V2 m (outs m) c main_v20 = outF (vals m) c := (Function.update_self ..).trans (outs_at m c 2)

attribute [local irreducible] outF

/-- What they hold at its exit. -/
theorem arr_last (c : Dev nD) (w : Fin 6) : (dat m c).arrAt w cfg0.N = V2 m (outs m) c (Proc.devRef .tc (Pipeline.arrRef spec0 w)) :=
  match w with
  | 0 => ((dat m c).arrAt_in 0 rfl cfg0.N).trans (V2_of m (outs m) c main_v5 (by decide)).symm
  | 1 => ((dat m c).arrAt_in 1 rfl cfg0.N).trans (V2_of m (outs m) c main_arg1 (by decide)).symm
  | 2 => ((dat m c).arrAt_in 2 rfl cfg0.N).trans (V2_of m (outs m) c main_v17 (by decide)).symm
  | 3 => ((dat m c).arrAt_in 3 rfl cfg0.N).trans (V2_of m (outs m) c main_v19 (by decide)).symm
  | 4 => ((dat m c).arrAt_in 4 rfl cfg0.N).trans (V2_of m (outs m) c main_arg4 (by decide)).symm
  | 5 => (out_last c (dat m c) (outF (vals m) c) rfl).trans (V2_out m c).symm

/-- The unscoped buffers no window reads or writes. -/
def aside : Finset (DevRef τ sig) := Pipeline.ucRefs τ sig \ Pipeline.arrRefs (τ := τ) spec0

/-- The windows' arrays are among the buffers that outlive the region. -/
theorem arr_sub : Pipeline.arrRefs (τ := τ) spec0 ⊆ Pipeline.ucRefs τ sig := by decide

/-- The region changes no buffer but its arrays. -/
theorem rest_same (c : Dev nD) (b : DevRef τ sig) (hb : b ∈ aside \ ∅) : V2 m (outs m) c b = V1 m c b := by
  refine Function.update_of_ne (fun h => ?_) _ _
  subst h
  exact absurd hb (by decide)

/-- Where something is owed at launch: to a barrier or to a receive cell. -/
theorem O₀_pos {c : Dev nD} {g : GSem nD τ sig} {u : Unit} (h : 0 < O₀ c g u) :
    (∃ k, g = bcell k) ∨ (∃ k, g = dcell k 1 c) ∨ ∃ k, g = dcell k 3 c := by
  obtain ⟨a, ha, hp⟩ := sumT_pos h
  rw [List.mem_append, List.mem_append, List.mem_map, List.mem_map, List.mem_map] at ha
  rcases ha with (⟨n, -, rfl⟩ | ⟨k, -, rfl⟩) | ⟨n, -, rfl⟩
  · exact .inl ⟨c + n, tallyAt_pos hp⟩
  · unfold rsT at hp
    split at hp
    · exact absurd hp (Nat.lt_irrefl 0)
    · exact .inr (.inl ⟨k, tallyAt_pos hp⟩)
  · exact .inr (.inr ⟨c + n, tallyAt_pos hp⟩)

/-- The windows' semaphores are at the lowest level. -/
theorem lv_win (c : Dev nD) (w : Fin 6) (s : Fin (win0 w).nbuf) : lv ((c : Thread nD τ), .dma ((win0 w).sem s)) () = 0 := by
  have h : fam ((win0 w).sem s) = 0 := by revert w; decide
  dsimp only [lv]
  rw [h]
  rfl

/-- What is owed is owed at levels above the windows'. -/
theorem owed_cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  by_cases h0 : t.val = 0
  · rw [show (pdats m 0 c).owed t = O₀ c from owed_first m c t h0] at h
    rcases O₀_pos h with ⟨k, rfl⟩ | ⟨k, rfl⟩ | ⟨k, rfl⟩
    · exact ⟨by rw [L_tc]; exact Finset.mem_singleton_self _, by rw [lv_bar]; decide⟩
    all_goals exact ⟨by rw [L_tc]; exact Finset.mem_singleton_self _, by rw [lv_dma]; decide⟩
  · rw [show (pdats m 0 c).owed t = 0 from owed_last m c t h0] at h
    exact absurd h (Nat.lt_irrefl 0)

set_option backward.isDefEq.respectTransparency.types false in
/-- The region's record. -/
def reg : RegionSeg (pcfgs (F := F)) adm (pdats m) () defs₀ 𝒱₀ L lv 0 :=
  RegionSeg.ofTalk (pcfgs (F := F)) adm (pdats m) () defs₀ 𝒱₀ L lv 0 osem (by decide : Pipeline.OwnSemFacts spec0 osem)
    ∅ aside (Finset.empty_subset _) kit rfl (fun c => (body_ok m c).loose)
    (fun _ => 0) O₀ (fun c => (owed_first m c 0 rfl).trans (zero_add _).symm) (fun c => owed_last m c _ (by show grid0.N ≠ 0; rw [N_0]; decide)) (fun _ => rfl) (fun c w => by show (dat m c).share w = fullShare; unfold Dat.share; exact ite_self _)
    (V1 m) (V2 m (outs m)) (fun c b hb => rest_same m c b hb)
    (brings m) (fun c => semVal (bcell c) 0) (ready m) (fun c => semVal (bcell c) 0) (open_all m) (region_in m) (region_out m)
    (fun c => by iintro H; imodintro; iexact H)
    (fun _ => 0)
    ⟨fun c w s => by rw [L_tc]; exact Finset.mem_singleton_self _, fun c w s => (lv_win c w s).le, fun c t g i h => owed_cut m c t g i h⟩
    (fun _ => iprop(emp))
    (fun c w => arr_first m c w) (fun c w => arr_last m c w)

/-- What a device holds beside its buffers before and after the region. -/
abbrev beside : Fin 2 → Dev nD → sProp 𝕄
  | 0, c => iprop(brings m c ∗ (∃ r, prngReg c r) ∗ ow c (O₀ c))
  | 1, c => iprop(semVal (bcell c) 0 ∗ ow (F := F) c 0)

/-- What a device has before the region is what the region asks for. -/
theorem reg_pre (c : Dev nD) : iprop(StableHlo.held (c : Thread nD τ) (Pipeline.ucRefs τ sig) (V1 m c) ∗ beside m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) aside (V1 m c) ∗ emp) ∗ brings m c ∗ ∃ Wd, owes (c : Thread nD τ) (0 + O₀ c) Wd)
  rw [StableHlo.held_sub_split (c : Thread nD τ) arr_sub, zero_add]
  unfold beside ow
  dsimp only
  iintro ⟨⟨Ha, Hr⟩, Hb, Hp, HO⟩
  isplitl [Ha]; · iexact Ha
  isplitl [Hp]; · iexact Hp
  isplitl [Hr]
  · isplitl [Hr]; · iexact Hr
    iempintro
  isplitl [Hb]; · iexact Hb
  iexact HO

/-- What the region gives back is what a device has after it. -/
theorem reg_post (c : Dev nD) : (reg m).post c ⊢ iprop(StableHlo.held (c : Thread nD τ) (Pipeline.ucRefs τ sig) (V2 m (outs m) c) ∗ beside m 1 c) := by
  show iprop(StableHlo.held (c.tc : Thread nD τ) (Pipeline.arrRefs (τ := τ) spec0) (V2 m (outs m) c) ∗ (∃ r, prngReg c r)
    ∗ (StableHlo.held (c.tc : Thread nD τ) aside (V2 m (outs m) c) ∗ emp) ∗ semVal (bcell c) 0 ∗ ∃ Wd, owes (c : Thread nD τ) (0 : CellTallies nD τ sig Unit) Wd) ⊢ _
  rw [StableHlo.held_sub_split (c : Thread nD τ) arr_sub]
  unfold beside ow
  dsimp only
  iintro ⟨Ha, -, ⟨Hr, -⟩, Hb, HO⟩
  isplitl [Ha Hr]
  · isplitl [Ha]; · iexact Ha
    iexact Hr
  isplitl [Hb]; · iexact Hb
  iexact HO

end Cert.KernelIdeal.Run

end
-- ==== Proof.Launch.lean ====
/-
  The launch: the cells are made and dealt out, and the whole program is run on all the devices.
-/
module

public import proofs.«01_k».proof.Proof.Record

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F]

local notation "𝕄" => MT nD τ sig Unit (Elt F) ℕ UU ℕ

/-! ## The cells and the duties' tokens -/

/-- The barriers' cells, funded from the start. -/
def barEmb : Dev nD ↪ GSem nD τ sig := ⟨bcell, fun _ _ h => bcell_eq.mp h⟩
/-- The own cells, which the region opens. -/
def ownEmb : Dev nD × Fin 4 × Dev nD ↪ GSem nD τ sig :=
  ⟨fun x => dcell x.1 x.2.1 x.2.2, fun _ _ h => have e := dcell_eq.mp h; Prod.ext e.1 (Prod.ext e.2.1 e.2.2)⟩

/-- All devices' barrier cells. -/
abbrev barCells : Finset (GSem nD τ sig) := Finset.univ.map barEmb
/-- All devices' transfer cells. -/
abbrev ownCells : Finset (GSem nD τ sig) := Finset.univ.map ownEmb

/-- No barrier cell is a transfer cell. -/
theorem cells_apart : Disjoint (barCells : Finset (GSem nD τ sig)) ownCells := by
  rw [Finset.disjoint_left]
  intro g hb ho
  obtain ⟨c, -, rfl⟩ := Finset.mem_map.mp hb
  obtain ⟨x, -, h⟩ := Finset.mem_map.mp ho
  exact bcell_ne _ _ _ _ h.symm

/-- The cell of family `a` (the fifth being the barriers) that device `c` has for device `j`. -/
def tokCell (c : Dev nD) (a : Fin 5) (j : Dev nD) : GSem nD τ sig := ((c : Thread nD τ), if h : a.val < 4 then .dma (dsem ⟨a.val, h⟩ j) else .reg barS)

/-- One cell for one number is of one device and one family. -/
theorem tokCell_inj {c d : Dev nD} {a b : Fin 5} {j : Dev nD} (h : tokCell c a j = tokCell d b j) : c = d ∧ a = b := by
  refine ⟨congrArg (fun g : GSem nD τ sig => g.1.1) h, ?_⟩
  have h2 := congrArg Prod.snd h
  unfold tokCell at h2
  dsimp only at h2
  split at h2 <;> split at h2
  · exact Fin.ext (congrArg (fun i : Fin 4 => i.val) (dsem_inj _ _ _ _ (SemLoc.dma.inj h2)).1)
  · exact nomatch h2
  · exact nomatch h2
  · exact Fin.ext (by omega)

/-- A token for each duty: each device's in each of its cells. -/
def tokEmb : Dev nD × Fin 5 × Dev nD ↪ GSem nD τ sig × ℕ × Dev nD :=
  ⟨fun x => (tokCell x.1 x.2.1 x.2.2, 0, x.2.2), fun x y h => by
    have hj : x.2.2 = y.2.2 := congrArg (fun t : GSem nD τ sig × ℕ × Dev nD => t.2.2) h
    have hc : tokCell x.1 x.2.1 x.2.2 = tokCell y.1 y.2.1 y.2.2 := congrArg Prod.fst h
    rw [← hj] at hc
    exact Prod.ext (tokCell_inj hc).1 (Prod.ext (tokCell_inj hc).2 hj)⟩

/-- The tokens of all duties. -/
abbrev tokens : Finset (GSem nD τ sig × ℕ × Dev nD) := Finset.univ.map tokEmb

/-- The tokens, dealt to the devices that fulfil the duties. -/
theorem tokens_dealt : bigSep tokens (fun x => (dutyTok ER x.1 x.2.1 x.2.2 : sProp 𝕄)) = bigSep Finset.univ (deal (F := F)) := by
  have h5 (Φ : Fin 5 → sProp 𝕄) : bigSep Finset.univ Φ = iprop(Φ 4 ∗ Φ 0 ∗ Φ 1 ∗ Φ 2 ∗ Φ 3) := by
    rw [show (Finset.univ : Finset (Fin 5)) = {4, 0, 1, 2, 3} from by decide, bigSep_insert (by decide), bigSep_insert (by decide), bigSep_insert (by decide),
      bigSep_insert (by decide), bigSep_singleton]
    rfl
  unfold tokens deal
  rw [bigSep_map, bigSep_univ_prod]
  have e (c : Dev nD) : (bigSep Finset.univ fun x : Fin 5 × Dev nD => (dutyTok ER (tokEmb (c, x)).1 (tokEmb (c, x)).2.1 (tokEmb (c, x)).2.2 : sProp 𝕄))
      = iprop((bigSep Finset.univ fun j : Dev nD => dutyTok ER (bcell c) 0 j) ∗ (bigSep Finset.univ fun j : Dev nD => dutyTok ER (dcell c 0 j) 0 j)
        ∗ (bigSep Finset.univ fun j : Dev nD => dutyTok ER (dcell c 1 j) 0 j) ∗ (bigSep Finset.univ fun j : Dev nD => dutyTok ER (dcell c 2 j) 0 j)
        ∗ bigSep Finset.univ fun j : Dev nD => dutyTok ER (dcell c 3 j) 0 j) := by
    rw [bigSep_univ_prod, h5]; rfl
  rw [bigSep_congr fun c _ => e c]
  simp only [bigSep_sep']
  rw [bigSep_univ_comm fun c j : Dev nD => (dutyTok ER (bcell c) 0 j : sProp 𝕄), bigSep_univ_comm fun c j : Dev nD => (dutyTok ER (dcell c 1 j) 0 j : sProp 𝕄),
    bigSep_univ_comm fun c j : Dev nD => (dutyTok ER (dcell c 3 j) 0 j : sProp 𝕄)]

/-- Two families side by side are one family of pairs. -/
theorem of_both {Φ Ψ : Dev nD → sProp 𝕄} : iprop(bigSep Finset.univ Φ ∗ bigSep Finset.univ Ψ) ⊢ bigSep Finset.univ fun c => iprop(Φ c ∗ Ψ c) :=
  BIBase.Entails.of_eq (bigSep_sep' Finset.univ Φ Ψ).symm
/-- A family of pairs is two families side by side. -/
theorem both_of {Φ Ψ : Dev nD → sProp 𝕄} : (bigSep Finset.univ fun c => iprop(Φ c ∗ Ψ c)) ⊢ iprop(bigSep Finset.univ Φ ∗ bigSep Finset.univ Ψ) :=
  BIBase.Entails.of_eq (bigSep_sep' Finset.univ Φ Ψ)

/-! ## What the launch makes -/

/-- The launch's resources: the windows' staging cells, and the exchange's cells with their tokens. -/
def u₀ : UU :=
  (initOf (Pipeline.cells cfgs cellOf_inj) (Pipeline.launchToks cfgs cellOf_inj), launchOf barCells ownCells tokens)

/-- All of the exchange's resources, set down on device 0 until they are dealt. -/
def G (c : Dev nD) : sProp 𝕄 := if c = 0 then BI.own (ER (launchOf barCells ownCells tokens)) else iprop(emp)

/-- The devices' shares at launch together are all of the exchange's resources. -/
theorem G_all : bigSep Finset.univ (G (F := F)) = BI.own (ER (launchOf barCells ownCells tokens)) := by
  rw [bigSep_univ_at _ 0, bigSep_congr (s := Finset.univ.erase 0) (Ψ := fun _ => (BI.emp : sProp 𝕄)) fun c hc => by
    unfold G; rw [if_neg (Finset.ne_of_mem_erase hc)]; rfl, BI.bigSep_emp_const]
  unfold G
  rw [if_pos rfl]
  exact BI.equiv_iff.mp sep_emp

variable (m : (ℓ : Loc nD τ sig) → Buf (Elt F) ℓ) (ρ : Dev nD → PrngReg)

/-- What every device may look up: all the cells' records, and that every barrier is at its first round. -/
def shared : sProp 𝕄 := iprop((∃ K, recs' (vals m) K) ∗ bigSep Finset.univ fun d : Dev nD => reached ER (bcell d) 0)

/-- The cells' records, and the barriers being at their first round, are what every device may look up. -/
theorem shared_of (K : GSem nD τ sig → ℕ) :
    iprop((bigSep (barCells ∪ ownCells) fun g => cellInv ER (rd (P (vals m)) (Fb (vals m))) (K g) g) ∗ bigSep barCells fun g => reached ER g 0) ⊢ (shared m : sProp 𝕄) := by
  have e : (bigSep (barCells ∪ ownCells) fun g => (cellInv ER (rd (P (vals m)) (Fb (vals m))) (K g) g : sProp 𝕄))
      = iprop((bigSep Finset.univ fun d : Dev nD => cellInv ER (rd (P (vals m)) (Fb (vals m))) (K (bcell d)) (bcell d))
        ∗ bigSep Finset.univ fun x : Dev nD × Fin 4 × Dev nD => cellInv ER (rd (P (vals m)) (Fb (vals m))) (K (dcell x.1 x.2.1 x.2.2)) (dcell x.1 x.2.1 x.2.2)) := by
    refine (bigSep_union cells_apart).trans ?_
    rw [bigSep_map, bigSep_map]; rfl
  rw [e, bigSep_map]
  unfold shared recs' recs
  iintro ⟨⟨Hb, Ho⟩, Hr⟩
  isplitl [Hb Ho]
  · iexists K
    isplitl [Ho]; · iexact Ho
    iexact Hb
  iexact Hr

/-- What is one device's alone. -/
def alone (c : Dev nD) : sProp 𝕄 :=
  iprop(atPos ER (bcell c) 0 ∅ 0 ∗ (bigSep Finset.univ fun x : Fin 4 × Dev nD => openTok ER (dcell c x.1 x.2)) ∗ deal (F := F) c
    ∗ creds (F := F) c ∗ (∃ r, prngReg c r) ∗ ow (F := F) c (O₀ c))

/-- The barrier's semaphore is the only one that outlives the region. -/
theorem unscoped_eq : ∀ sm : SemLoc sig, sm.isScoped .tc = false → sm = .reg barS := by decide

/-- What the launch gives a device of such semaphores is its barrier's, at zero. -/
theorem unscopedSems_eq (c : Dev nD) : (unscopedSems0 c : sProp 𝕄) = semVal (bcell c) 0 := by
  unfold unscopedSems0
  rw [show (Finset.univ.filter fun sm : SemLoc sig => ¬ sm.isScoped .tc) = {SemLoc.reg barS} from by decide, bigSep_singleton]

/-- A device's share is what it brings to the region, its generator and its debts. -/
theorem share_out (c : Dev nD) : iprop(shared m ∗ alone (F := F) c) ⊢ (beside m 0 c : sProp 𝕄) := by
  show _ ⊢ iprop(brings m c ∗ (∃ r, prngReg c r) ∗ ow c (O₀ c))
  unfold shared alone brings
  iintro ⟨⟨HK, Hr⟩, Hat, Ho, Hd, Hc, Hp, HO⟩
  isplitr [Hp HO]
  · isplitl [HK]; · iexact HK
    isplitl [Hr]; · iexact Hr
    isplitl [Hat]; · iexact Hat
    isplitl [Ho]; · iexact Ho
    isplitl [Hd]; · iexact Hd
    iexact Hc
  isplitl [Hp]; · iexact Hp
  iexact HO

/-- What every device may look up may be looked up again and again. -/
instance shared_persistent : BI.Persistent (shared m : sProp 𝕄) := by unfold shared; infer_instance

/-- Making the cells and dealing everything out. -/
theorem dealt :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (beside m 0) : sProp 𝕄) := by
  have hc (c : Dev nD) : iprop(unscopedSems0 c ∗ owes (c : Thread nD τ) (O₀ c) ∅ ∗ Pipeline.launchCred O₀ c ∗ prngReg c (ρ c) ∗ G (F := F) c)
      ⊢ (iprop((creds (F := F) c ∗ (∃ r, prngReg c r) ∗ ow (F := F) c (O₀ c)) ∗ semVal (bcell c) 0 ∗ G (F := F) c) : sProp 𝕄) := by
    rw [unscopedSems_eq]
    unfold ow
    iintro ⟨Hb, HO, Hl, Hp, HG⟩
    isplitl [HO Hl Hp]
    · isplitl [Hl]; · iapply (creds_of (F := F) c) $$ [Hl]; iexact Hl
      isplitl [Hp]; · iexists (ρ c); iexact Hp
      iexists ∅; iexact HO
    isplitl [Hb]; · iexact Hb
    iexact HG
  have hv : (bigSep barCells (fun g => (semVal g 0 : sProp 𝕄))) = bigSep Finset.univ fun c : Dev nD => semVal (bcell c) 0 := bigSep_map _
  have ha : (bigSep barCells (fun g => (atPos ER g 0 ∅ 0 : sProp 𝕄))) = bigSep Finset.univ fun c : Dev nD => atPos ER (bcell c) 0 ∅ 0 := bigSep_map _
  have ho : (bigSep ownCells (fun g => (openTok ER g : sProp 𝕄)))
      = bigSep Finset.univ fun c : Dev nD => bigSep Finset.univ fun x : Fin 4 × Dev nD => openTok ER (dcell c x.1 x.2) := by
    rw [bigSep_map, bigSep_univ_prod]; rfl
  have hs : (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop((creds (F := F) c ∗ (∃ r, prngReg c r) ∗ ow (F := F) c (O₀ c)) ∗ semVal (bcell c) 0 ∗ G (F := F) c) : sProp 𝕄) :=
    bigSep_mono fun c _ => hc c
  have hj : iprop((bigSep Finset.univ fun c : Dev nD => atPos ER (bcell c) 0 ∅ 0)
      ∗ (bigSep Finset.univ fun c : Dev nD => bigSep Finset.univ fun x : Fin 4 × Dev nD => openTok ER (dcell c x.1 x.2))
      ∗ bigSep Finset.univ (deal (F := F)) ∗ bigSep Finset.univ fun c : Dev nD => iprop(creds (F := F) c ∗ (∃ r, prngReg c r) ∗ ow (F := F) c (O₀ c)))
      ⊢ (bigSep Finset.univ (alone (F := F)) : sProp 𝕄) :=
    (sep_mono_right ((sep_mono_right of_both).trans of_both)).trans of_both
  iintro ⟨H, -⟩
  ihave H := hs $$ [H]
  · iexact H
  ihave H := both_of $$ H
  icases H with ⟨Hx, Hy⟩
  ihave Hy := both_of $$ Hy
  icases Hy with ⟨Hv, HG⟩
  imod (Rounds.fund_launch ER (rd (P (vals m)) (Fb (vals m))) cells_apart (fun g _ h => h) tokens) $$ [Hv HG] with ⟨%K, -, #Hi, #Hr, Hat, Ho, Ht⟩
  · rw [hv, ← G_all (F := F)]
    isplitl [Hv]; · iexact Hv
    iexact HG
  imodintro
  iapply (bigSep_with_persistent (R := shared m) (Φ := fun c : Dev nD => alone (F := F) c) (S := Finset.univ) fun c _ => share_out m c)
  isplitr
  · iapply (shared_of m K)
    isplitr; · iexact Hi
    iexact Hr
  iapply (hj : _ ⊢ (bigSep Finset.univ (alone (F := F)) : sProp 𝕄))
  ihave Hat := (BIBase.Entails.of_eq ha) $$ [Hat]
  · iexact Hat
  ihave Ho := (BIBase.Entails.of_eq ho) $$ [Ho]
  · iexact Ho
  ihave Ht := (BIBase.Entails.of_eq (tokens_dealt (F := F))) $$ [Ht]
  · iexact Ht
  isplitl [Hat]; · iexact Hat
  isplitl [Ho]; · iexact Ho
  isplitl [Ht]; · iexact Ht
  iexact Hx

/-! ## The run -/

/-- What a final state of device `c` has: the arguments unchanged, the result of the last stretch, and the barrier at zero. -/
def finish (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v21) = V3 m (outs m) c main_v21

set_option backward.isDefEq.respectTransparency.types false in
/-- From any memory with the counters at zero every run ends, with the arguments unchanged, the result as the last stretch leaves it,
    and every counter at zero. -/
theorem run_main : θ_run defs (onTc (τ := τ) (main (F := F))) ⟨m, fun _ => 0, ρ⟩
    (fun r => (∀ c : Dev nD, finish m c r.2) ∧ r.2.sem = fun _ => 0) := by
  haveI : ∀ e, Nonempty (Elt F e) := fun e => Elt.nonempty F e
  refine Pipeline.θ_run_regions_kit_dev_sems (pcfgs (F := F)) adm (pdats m) () cellOf_inj EP defs₀ 𝒱₀ L lv m ρ main
    (segs m (outs m) 𝒱₀ L lv (beside m) () (pdats m) (reg m))
    (fun c Q => by
      rewrite [main_chain c, Seg.run_eq_chain,
        show (segs m (outs m) 𝒱₀ L lv (beside m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (G (F := F)) u₀ ?_
    (T₀ := fun c => iprop(StableHlo.held (c : Thread nD τ) (Pipeline.ucRefs τ sig) (V0 m c) ∗ beside m 0 c))
    (Tₙ := fun c => iprop(StableHlo.held (c : Thread nD τ) (Pipeline.ucRefs τ sig) (V3 m (outs m) c) ∗ semVal (bcell c) 0))
    (hch := fun c => ⟨.rfl, reg_pre m c, reg_post m c, ?_⟩)
    (hinit := ?_) (QY := fun c s => finish m c s ∧ s.sem (bcell c) = 0)
    (hfin := fun c s' => ?_)
    (hQ := fun s h hs => ⟨fun c => (h c).1, sem_eq_zero hs fun c sm hsm => by obtain rfl := unscoped_eq sm hsm; exact (h c).2⟩)
  · iintro Hu
    ihave H := (ownU_pair _ _) $$ Hu
    icases H with ⟨HP, HX⟩
    imodintro
    isplitl [HP]; · iexact HP
    rw [G_all]
    iexact HX
  · show iprop(_ ∗ semVal (bcell c) 0 ∗ ∃ W, owes (c : Thread nD τ) (0 : CellTallies nD τ sig Unit) W) ⊢ _
    iintro ⟨Hh, Hb, HO⟩
    isplitl [Hh Hb]
    · isplitl [Hh]; · iexact Hh
      iexact Hb
    iexact HO
  · have hs : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hl⟩
    ihave H := hs $$ [H]
    · iexact H
    icases H with ⟨Hh, Hr⟩
    imod (dealt m ρ) $$ [Hr Hl] with HE
    · isplitl [Hr]; · iexact Hr
      iexact Hl
    imodintro
    iapply of_both
    isplitl [Hh]; · iexact Hh
    iexact HE
  · unfold StableHlo.held
    iintro ⟨⟨Hh, Hb⟩, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    icombine HSI Hb gives %hb
    imodintro
    isplitr
    · ipureintro
      have at_ (b : Ref sig .tc) (hb : Proc.devRef .tc b ∈ Pipeline.ucRefs τ sig) := h (Proc.devRef .tc b) hb
      exact ⟨⟨⟨(at_ main_arg0 (Finset.mem_filter.mpr ⟨StableHlo.devRef_mem_tcRefs main_arg0, by decide⟩)).trans (V3_main_arg0 m (outs m) c),
        (at_ main_arg1 (Finset.mem_filter.mpr ⟨StableHlo.devRef_mem_tcRefs main_arg1, by decide⟩)).trans (V3_main_arg1 m (outs m) c),
        (at_ main_arg2 (Finset.mem_filter.mpr ⟨StableHlo.devRef_mem_tcRefs main_arg2, by decide⟩)).trans (V3_main_arg2 m (outs m) c),
        (at_ main_arg3 (Finset.mem_filter.mpr ⟨StableHlo.devRef_mem_tcRefs main_arg3, by decide⟩)).trans (V3_main_arg3 m (outs m) c),
        (at_ main_arg4 (Finset.mem_filter.mpr ⟨StableHlo.devRef_mem_tcRefs main_arg4, by decide⟩)).trans (V3_main_arg4 m (outs m) c)⟩,
        at_ main_v21 (Finset.mem_filter.mpr ⟨StableHlo.devRef_mem_tcRefs main_v21, by decide⟩)⟩, by simpa using hb⟩
    · iexact HSI

/-- The arguments of a device unchanged. -/
def unchanged (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

/-- The run with its result dropped: every run ends, with the arguments unchanged and every counter at zero. -/
theorem run_frame : θ_run defs (onTc (τ := τ) (main (F := F))) ⟨m, fun _ => 0, ρ⟩
    (fun r => (∀ c : Dev nD, unchanged m c r.2) ∧ r.2.sem = fun _ => 0) :=
  (θ_run defs _ _).mono (fun _ h => ⟨fun c => (h.1 c).1, h.2⟩) (run_main m ρ)

end Cert.KernelIdeal.Run

end
-- ==== Proof.Spec.lean ====
/- The mathematics both programs compute, over the extended reals: attention of every head under the mask "near, or
   among the first thirty-two", and the projection of all heads' results. -/
module

public import Idealize.ShloMosaic.Lib.ValueIdx
public import Idealize.ShloMosaic.Lib.IdealHost

@[expose] public section

noncomputable section

namespace Cert.Spec

open Idealize.ShloMosaic Idealize.ShloMosaic.ValueIdx
open scoped BigOperators

/-- Whether position `i` may attend to position `j`, as a one-bit word: at most 128 apart, or either of the two among
    the first 32. -/
def allowed (i j : Fin 256) : BitVec 1 :=
  IntOp.ori
    (IntOp.ori (IntOp.cmpi .sle (IntOp.absi (IntOp.subi (BitVec.ofNat 32 i.val) (BitVec.ofNat 32 j.val))) 128#32)
      (IntOp.cmpi .slt (BitVec.ofNat 32 j.val) 32#32))
    (IntOp.cmpi .slt (BitVec.ofNat 32 i.val) 32#32)

/-- The scaled score of a pair of positions, or the large negative number where the mask forbids it. -/
def score (q k : Fin 256 → Fin 64 → EReal) (i j : Fin 256) : EReal :=
  Scalar.select (allowed i j) ((∑ d, q i d * k j d) * Ideal.ofBits .f32 0x3E000000#32) (Ideal.ofBits .f32 0xCE6E6B28#32)

/-- A row's largest score. -/
def rowMax (s : Fin 256 → EReal) : EReal := (Finset.univ : Finset (Fin 256)).fold max (Ideal.ofBits .f32 0xFF800000#32) s

/-- The exponential of a score less its row's largest. -/
def lifted (s : Fin 256 → Fin 256 → EReal) (i j : Fin 256) : EReal := Ideal.exp (s i j - rowMax (s i))

/-- A row's exponentials divided by their sum. -/
def weight (e : Fin 256 → Fin 256 → EReal) (i j : Fin 256) : EReal := Ideal.div (e i j) (∑ j', e i j')

/-- One head's attention. -/
def attend (q k v : Fin 256 → Fin 64 → EReal) (i : Fin 256) (d : Fin 64) : EReal :=
  ∑ j, weight (lifted (score q k)) i j * v j d

/-- Column `d` of head `h` among the 2048. -/
def lane (h : Fin 32) (d : Fin 64) : Fin 2048 := ⟨64 * h.val + d.val, by omega⟩

variable (X : (⟨3, ![2, 256, 512]⟩ : Shape).Idx → EReal) (WQ : (⟨2, ![512, 2048]⟩ : Shape).Idx → EReal)
  (K V : (⟨4, ![2, 256, 32, 64]⟩ : Shape).Idx → EReal) (WO : (⟨2, ![2048, 512]⟩ : Shape).Idx → EReal)

/-- The queries. -/
def query (b : Fin 2) (i : Fin 256) (n : Fin 2048) : EReal := ∑ d : Fin 512, X (ix3 b i d) * WQ (ix2 d n)

/-- What head `h` of batch entry `b` gives. -/
def context (b : Fin 2) (h : Fin 32) (i : Fin 256) (d : Fin 64) : EReal :=
  attend (fun i d => query X WQ b i (lane h d)) (fun j d => K (ix4 b j h d)) (fun j d => V (ix4 b j h d)) i d

/-- One product of the last projection. -/
def term (b : Fin 2) (i : Fin 256) (n : Fin 512) (k : Fin 2048) : EReal :=
  context X WQ K V b ⟨k.val / 64, by omega⟩ i ⟨k.val % 64, by omega⟩ * WO (ix2 k n)

/-- The result. -/
def result (b : Fin 2) (i : Fin 256) (n : Fin 512) : EReal := ∑ k : Fin 2048, term X WQ K V WO b i n k

/-- Number `k` of the 256 products that device `j` adds up. -/
def seat (j : Fin 8) (k : Fin 256) : Fin 2048 := ⟨256 * j.val + k.val, by omega⟩

/-- The result is the sum over the eight devices of each one's 256 products. -/
theorem result_eq (b : Fin 2) (i : Fin 256) (n : Fin 512) :
    result X WQ K V WO b i n = ∑ j : Fin 8, ∑ k : Fin 256, term X WQ K V WO b i n (seat j k) := by
  unfold result
  rw [← Fintype.sum_prod_type' (f := fun j k => term X WQ K V WO b i n (seat j k))]
  refine (Fintype.sum_equiv (finProdFinEquiv (m := 8) (n := 256)) _ _ fun p => ?_).symm
  congr 1
  apply Fin.ext
  show 256 * p.1.val + p.2.val = p.2.val + 256 * p.1.val
  omega

end Cert.Spec

end
-- ==== Proof.Attn.lean ====
/- One device's partial result at the extended reals: the entry of every payload of the kernel as the plain attention of
   Spec. -/
module

public import proofs.«01_k».proof.Proof.Vals
public import proofs.«01_k».proof.Proof.Spec
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.KernelIdeal.Run

open Idealize.ShloMosaic Idealize.ShloMosaic.TcCoe Idealize.ShloMosaic.ValueIdx
open Cert.KernelIdeal.Gen
open scoped BigOperators

/-- The kernel's mask at a pair of positions. -/
theorem mask_at (i j : Fin 256) : k0_pay3 (ix2 i j) = Cert.Spec.allowed i j := by
  have h0 : iota .tc S256x256 32 [0] iota_S256x256_d0_w32 (ix2 i j) = BitVec.ofNat 32 i.val := iota_single_apply ..
  have h1 : iota .tc S256x256 32 [1] iota_S256x256_d1_w32 (ix2 i j) = BitVec.ofNat 32 j.val := iota_single_apply ..
  unfold Cert.Spec.allowed
  rw [← h0, ← h1]
  rfl

/-- A head's masked scores, from its queries and keys. -/
def scoresA (a : FVec Ideal S256x64 .f32) (k : Vec Ideal S1x256x64 .f32) : FVec Ideal S256x256 .f32 :=
  select k0_pay3
    (mulf (matmul dot_S256x64_S256x64_S256x256_1_1_0_0_n_n none (truncf .bf16 a bitsLt_bf16_f32)
      (truncf .bf16 (shapeCast S256x64 k shapeCasts_S1x256x64_S256x64) bitsLt_bf16_f32) (constant S256x256 .f32 0x00000000#32))
      (broadcast S256x256 (Scalar.ofBits .f32 0x3E000000#32)))
    (broadcast S256x256 (Scalar.ofBits .f32 0xCE6E6B28#32))

/-- The exponentials of scores less their row's largest. -/
def expA (s : FVec Ideal S256x256 .f32) : FVec Ideal S256x256 .f32 :=
  exp (subf s (broadcastTo S256x256 (shapeCast S256x1
    (multiReduction .maximumf [1] S256 s 0xFF800000#32 reduces_S256x256_S256 (.inl rfl) rfl) shapeCasts_S256_S256x1) broadcasts_S256x1_S256x256))

/-- The rows' sums of exponentials. -/
def sumA (e : FVec Ideal S256x256 .f32) : FVec Ideal S256 .f32 :=
  multiReduction .add [1] S256 e 0x00000000#32 reduces_S256x256_S256 (.inl rfl) rfl

/-- A head's result from its exponentials, their sums and its values. -/
def ctxA (e : FVec Ideal S256x256 .f32) (z : FVec Ideal S256 .f32) (v : Vec Ideal S1x256x64 .f32) : FVec Ideal S256x64 .f32 :=
  matmul dot_S256x256_S256x64_S256x64_1_0_0_1_n_n none
    (truncf .bf16 (divf e (broadcastTo S256x256 (shapeCast S256x1 z shapeCasts_S256_S256x1) broadcasts_S256x1_S256x256)) bitsLt_bf16_f32)
    (truncf .bf16 (shapeCast S256x64 v shapeCasts_S1x256x64_S256x64) bitsLt_bf16_f32) (constant S256x64 .f32 0x00000000#32)

/-- A column of 256 spread over a square reads its row. -/
theorem spread_at (z : FVec Ideal S256 .f32) (i j : Fin 256) :
    broadcastTo S256x256 (shapeCast S256x1 z shapeCasts_S256_S256x1) broadcasts_S256x1_S256x256 (ix2 i j) = z (ix1 i) := by
  rw [broadcastTo_apply _ _ _ (ix2 i (0 : Fin 1)) (fun a => by match a with | ⟨0, _⟩ => rfl | ⟨1, _⟩ => rfl)]
  exact shapeCast_a_a1_apply _ _ _ _

/-- A head's masked score at a pair of positions. -/
theorem scoresA_at (a : FVec Ideal S256x64 .f32) (k : Vec Ideal S1x256x64 .f32) (i j : Fin 256) :
    scoresA a k (ix2 i j) = Cert.Spec.score (fun i d => a (ix2 i d)) (fun j d => k (ix3 (0 : Fin 1) j d)) i j := by
  have hm : matmul dot_S256x64_S256x64_S256x256_1_1_0_0_n_n none (truncf .bf16 a bitsLt_bf16_f32)
      (truncf .bf16 (shapeCast S256x64 k shapeCasts_S1x256x64_S256x64) bitsLt_bf16_f32) (constant S256x256 .f32 0x00000000#32) (ix2 i j)
      = ∑ d : Fin 64, a (ix2 i d) * k (ix3 (0 : Fin 1) j d) := by
    refine (Ideal.matmul_transposedRhs_apply none _ _ _ i j).trans ?_
    rw [constant_apply, Ideal.ofBits_zero_f32, zero_add]
    refine Finset.sum_congr rfl fun d _ => ?_
    rw [truncf_apply, truncf_apply, shapeCast_1ab_ab_apply]
  unfold scoresA Cert.Spec.score
  rw [select_apply, mask_at, mulf_apply, hm]
  rfl

/-- The inserted column of a row's reduction. -/
theorem lift_row (i : Fin 256) (k : Fin 256) : (reduces_S256x256_S256 : S256x256.Reduces [1] S256).lift (ix1 i) k = ix2 i k := by
  funext a
  match a with
  | ⟨0, _⟩ => rfl
  | ⟨1, _⟩ => rfl

/-- The exponentials at a pair of positions. -/
theorem expA_at (s : FVec Ideal S256x256 .f32) (i j : Fin 256) :
    expA s (ix2 i j) = Cert.Spec.lifted (fun i j => s (ix2 i j)) i j := by
  unfold expA Cert.Spec.lifted
  show Ideal.exp (s (ix2 i j) - broadcastTo S256x256 _ _ (ix2 i j)) = _
  rw [spread_at]
  refine congrArg (fun x => Ideal.exp (s (ix2 i j) - x)) ((Ideal.multiReduction_maximumf_single s _ _ _ _ (ix1 i)).trans ?_)
  unfold Cert.Spec.rowMax
  exact congrArg (fun f => Finset.fold max _ f _) (funext fun k => congrArg s (lift_row i k))

/-- A row's sum. -/
theorem sumA_at (e : FVec Ideal S256x256 .f32) (i : Fin 256) : sumA e (ix1 i) = ∑ j : Fin 256, e (ix2 i j) := by
  refine (Ideal.multiReduction_add_single e _ _ _ _ (ix1 i)).trans ?_
  exact Finset.sum_congr rfl fun k _ => congrArg e (lift_row i k)

/-- A head's result at a position and a column. -/
theorem ctxA_at (e : FVec Ideal S256x256 .f32) (v : Vec Ideal S1x256x64 .f32) (i : Fin 256) (d : Fin 64) :
    ctxA e (sumA e) v (ix2 i d) = ∑ j, Cert.Spec.weight (fun i j => e (ix2 i j)) i j * v (ix3 (0 : Fin 1) j d) := by
  unfold ctxA
  refine (Ideal.matmul_plain_apply none _ _ _ i d).trans ?_
  rw [constant_apply, Ideal.ofBits_zero_f32, zero_add]
  refine Finset.sum_congr rfl fun j _ => ?_
  rw [truncf_apply, truncf_apply, shapeCast_1ab_ab_apply, divf_apply, spread_at, sumA_at]
  rfl

/-- A whole head. -/
def headA (a : FVec Ideal S256x64 .f32) (k v : Vec Ideal S1x256x64 .f32) : FVec Ideal S256x64 .f32 :=
  ctxA (expA (scoresA a k)) (sumA (expA (scoresA a k))) v

/-- A whole head at a position and a column is the plain attention. -/
theorem headA_at (a : FVec Ideal S256x64 .f32) (k v : Vec Ideal S1x256x64 .f32) (i : Fin 256) (d : Fin 64) :
    headA a k v (ix2 i d)
      = Cert.Spec.attend (fun i d => a (ix2 i d)) (fun j d => k (ix3 (0 : Fin 1) j d)) (fun j d => v (ix3 (0 : Fin 1) j d)) i d := by
  unfold headA Cert.Spec.attend
  rw [ctxA_at]
  have hs : (fun i j => scoresA a k (ix2 i j)) = Cert.Spec.score (fun i d => a (ix2 i d)) (fun j d => k (ix3 (0 : Fin 1) j d)) :=
    funext fun i => funext fun j => scoresA_at a k i j
  have he : (fun i j => expA (scoresA a k) (ix2 i j)) = Cert.Spec.lifted (Cert.Spec.score (fun i d => a (ix2 i d)) (fun j d => k (ix3 (0 : Fin 1) j d))) :=
    funext fun i => funext fun j => (expA_at _ i j).trans (by rw [hs])
  rw [he]

end Cert.KernelIdeal.Run

end
-- ==== Proof.Part.lean ====
/- One device's partial result at the extended reals, entry by entry. -/
module

public import proofs.«01_k».proof.Proof.Attn

@[expose] public section

noncomputable section

namespace Cert.KernelIdeal.Run

open Idealize.ShloMosaic Idealize.ShloMosaic.TcCoe Idealize.ShloMosaic.ValueIdx
open Cert.KernelIdeal.Gen
open scoped BigOperators

/-- A coordinate of an index of a unit-stride rectangle. -/
theorem unit_val {s : Shape} (off size : Fin s.rank → ℕ) (h : ∀ a, off a + size a ≤ s.size a) (j : (Rect.unit off size h).shape.Idx) (a : Fin s.rank) :
    ((Rect.unit off size h).toLoadRect.idx j a).val = off a + (j a).val :=
  congrArg (off a + ·) (Nat.one_mul _)

namespace Ins

variable (I : Ins Ideal)

/-- The whole window of the activations, loaded. -/
theorem ldx_eq : I.ldx = I.x := funext fun j => congrArg I.x (funext fun a => Fin.ext
  ((unit_val _ _ _ j a).trans (by match a with | ⟨0, _⟩ => exact Nat.zero_add _ | ⟨1, _⟩ => exact Nat.zero_add _)))
/-- The whole window of the query weights, loaded. -/
theorem ldwq_eq : I.ldwq = I.wq := funext fun j => congrArg I.wq (funext fun a => Fin.ext
  ((unit_val _ _ _ j a).trans (by match a with | ⟨0, _⟩ => exact Nat.zero_add _ | ⟨1, _⟩ => exact Nat.zero_add _)))
/-- The whole window of the output weights, loaded. -/
theorem ldwo_eq : I.ldwo = I.wo := funext fun j => congrArg I.wo (funext fun a => Fin.ext
  ((unit_val _ _ _ j a).trans (by match a with | ⟨0, _⟩ => exact Nat.zero_add _ | ⟨1, _⟩ => exact Nat.zero_add _)))

/-- A slab's entry. -/
theorem head_at (X : S8x256x64.Idx → Elt Ideal .f32) (n : Fin 8) (h : ∀ a, (![n.val, 0, 0] : Fin 3 → ℕ) a + S1x256x64.size a ≤ S8x256x64.size a)
    (j : Fin 256) (d : Fin 64) : head X n.val h (ix3 (0 : Fin 1) j d) = X (ix3 n j d) :=
  congrArg X (funext fun a => Fin.ext
    ((unit_val _ _ _ _ a).trans (by match a with | ⟨0, _⟩ => exact Nat.add_zero _ | ⟨1, _⟩ => exact Nat.zero_add _ | ⟨2, _⟩ => exact Nat.zero_add _)))

/-- The queries, entry by entry. -/
theorem qs_at (r : Fin 512) (n : Fin 256) : I.qs (ix2 r n) = ∑ d : Fin 512, I.x (ix2 r d) * I.wq (ix2 d n) := by
  unfold qs
  rw [ldx_eq, ldwq_eq]
  refine (Ideal.matmul_plain_apply none _ _ _ r n).trans ?_
  rw [constant_apply, Ideal.ofBits_zero_f32, zero_add]
  refine Finset.sum_congr rfl fun d _ => ?_
  rw [truncf_apply, truncf_apply, shapeCast_self, shapeCast_self]

/-- The output weights in the half format are the output weights. -/
theorem wob_at (k : Fin 256) (n : Fin 512) : I.wob (ix2 k n) = I.wo (ix2 k n) := by
  unfold wob k0_pay1
  rw [truncf_apply, shapeCast_self, ldwo_eq]

/-- Slab `4 b + h`: head `h` of the device's four for batch entry `b`. -/
def slab (b : Fin 2) (h : Fin 4) : Fin 8 := ⟨4 * b.val + h.val, by omega⟩

/-- What one of the device's heads gives, for a batch entry. -/
def ctx (b : Fin 2) (h : Fin 4) (i : Fin 256) (d : Fin 64) : EReal :=
  Cert.Spec.attend (fun i d => I.qs (ix2 (⟨256 * b.val + i.val, by omega⟩ : Fin 512) (⟨64 * h.val + d.val, by omega⟩ : Fin 256)))
    (fun j d => I.kh (ix3 (slab b h) j d)) (fun j d => I.vh (ix3 (slab b h) j d)) i d

/-- A head computed from the queries' rows and columns of its batch entry and number. -/
theorem headA_ctx (b : Fin 2) (h : Fin 4) (r c n : ℕ) (hr : r = 256 * b.val) (hc : c = 64 * h.val) (hn : n = 4 * b.val + h.val)
    (hs : S512x256.Slices ![r, c] S256x64) (hk : ∀ a, (![n, 0, 0] : Fin 3 → ℕ) a + S1x256x64.size a ≤ S8x256x64.size a) (i : Fin 256) (d : Fin 64) :
    headA (extractStridedSlice S256x64 ![r, c] I.qs hs) (head I.kh n hk) (head I.vh n hk) (ix2 i d) = I.ctx b h i d := by
  subst hr hc hn
  rw [headA_at]
  have hq : (fun i d => extractStridedSlice S256x64 ![256 * b.val, 64 * h.val] I.qs hs (ix2 i d))
      = fun (i : Fin 256) (d : Fin 64) => I.qs (ix2 (⟨256 * b.val + i.val, by omega⟩ : Fin 512) (⟨64 * h.val + d.val, by omega⟩ : Fin 256)) :=
    funext fun i => funext fun d => extractStridedSlice_apply (s := S512x256) (t := S256x64) _ I.qs hs (ix2 i d) _ fun a => by
      match a with | ⟨0, _⟩ => rfl | ⟨1, _⟩ => rfl
  have hkk : (fun j d => head I.kh (4 * b.val + h.val) hk (ix3 (0 : Fin 1) j d)) = fun (j : Fin 256) (d : Fin 64) => I.kh (ix3 (slab b h) j d) :=
    funext fun j => funext fun d => head_at I.kh (slab b h) hk j d
  have hvv : (fun j d => head I.vh (4 * b.val + h.val) hk (ix3 (0 : Fin 1) j d)) = fun (j : Fin 256) (d : Fin 64) => I.vh (ix3 (slab b h) j d) :=
    funext fun j => funext fun d => head_at I.vh (slab b h) hk j d
  rw [hq, hkk, hvv]
  rfl

/-- Four heads side by side, projected. -/
def projA (w : FVec Ideal S256x512 .bf16) (C : Fin 4 → FVec Ideal S256x64 .f32) : FVec Ideal S256x512 .f32 :=
  matmul dot_S256x256_S256x512_S256x512_1_0_0_1_n_n none
    (truncf .bf16 (concatenate S256x256 1 [⟨S256x64, C 0⟩, ⟨S256x64, C 1⟩, ⟨S256x64, C 2⟩, ⟨S256x64, C 3⟩]
      concatenates_S256x64_S256x64_S256x64_S256x64_S256x256_d1) bitsLt_bf16_f32) w (constant S256x512 .f32 0x00000000#32)

/-- Four heads side by side, projected, entry by entry. -/
theorem projA_at (w : FVec Ideal S256x512 .bf16) (C : Fin 4 → FVec Ideal S256x64 .f32) (i : Fin 256) (n : Fin 512) :
    projA w C (ix2 i n)
      = ∑ k : Fin 256, C ⟨k.val / 64, by omega⟩ (ix2 i (⟨k.val % 64, by omega⟩ : Fin 64)) * w (ix2 k n) := by
  refine (Ideal.matmul_plain_apply none _ _ _ i n).trans ?_
  rw [constant_apply, Ideal.ofBits_zero_f32, zero_add]
  refine Finset.sum_congr rfl fun k _ => congrArg (· * w (ix2 k n)) ?_
  exact concatenate_ofFn_apply (t := S256x256) (s₁ := S256x64) (1 : Fin 2) C concatenates_S256x64_S256x64_S256x64_S256x64_S256x256_d1 rfl 64 rfl (ix2 i k)
    ⟨k.val / 64, by omega⟩ rfl (ix2 i (⟨k.val % 64, by omega⟩ : Fin 64)) rfl (fun b hb => by
      match b, hb with
      | ⟨0, _⟩, _ => rfl
      | ⟨1, _⟩, hb => exact absurd rfl hb)

/-- The first batch entry's heads. -/
def topHeads : Fin 4 → FVec Ideal S256x64 .f32 := ![I.h0, I.h1, I.h2, ctxA I.s3 (sumA I.s3) (head I.vh 3 inb_S8x256x64_S1x256x64_3_0_0)]

/-- The first half of the partial result is the projection of the first batch entry's heads. -/
theorem top_eq : I.top = projA I.wob I.topHeads := rfl

/-- The first batch entry's heads side by side, entry by entry. -/
theorem topHeads_at (h : Fin 4) (i : Fin 256) (d : Fin 64) : I.topHeads h (ix2 i d) = I.ctx 0 h i d := by
  match h with
  | ⟨0, _⟩ => exact I.headA_ctx 0 0 0 0 0 rfl rfl rfl slices_S512x256_o0_0_S256x64 inb_S8x256x64_S1x256x64_0_0_0 i d
  | ⟨1, _⟩ => exact I.headA_ctx 0 1 0 64 1 rfl rfl rfl slices_S512x256_o0_64_S256x64 inb_S8x256x64_S1x256x64_1_0_0 i d
  | ⟨2, _⟩ => exact I.headA_ctx 0 2 0 128 2 rfl rfl rfl slices_S512x256_o0_128_S256x64 inb_S8x256x64_S1x256x64_2_0_0 i d
  | ⟨3, _⟩ => exact I.headA_ctx 0 3 0 192 3 rfl rfl rfl slices_S512x256_o0_192_S256x64 inb_S8x256x64_S1x256x64_3_0_0 i d

/-- The second batch entry's heads. -/
def botHeads : Fin 4 → FVec Ideal S256x64 .f32 := ![I.h4, I.h5, ctxA I.s6 I.m6 (head I.vh 6 inb_S8x256x64_S1x256x64_6_0_0),
  headA (extractStridedSlice S256x64 ![256, 192] I.qs slices_S512x256_o256_192_S256x64) (head I.kh 7 inb_S8x256x64_S1x256x64_7_0_0)
    (head I.vh 7 inb_S8x256x64_S1x256x64_7_0_0)]

/-- The second half of the partial result is the projection of the second batch entry's heads. -/
theorem bot_eq : I.bot = projA I.wob I.botHeads := rfl

/-- The second's. -/
theorem botHeads_at (h : Fin 4) (i : Fin 256) (d : Fin 64) : I.botHeads h (ix2 i d) = I.ctx 1 h i d := by
  match h with
  | ⟨0, _⟩ => exact I.headA_ctx 1 0 256 0 4 rfl rfl rfl slices_S512x256_o256_0_S256x64 inb_S8x256x64_S1x256x64_4_0_0 i d
  | ⟨1, _⟩ => exact I.headA_ctx 1 1 256 64 5 rfl rfl rfl slices_S512x256_o256_64_S256x64 inb_S8x256x64_S1x256x64_5_0_0 i d
  | ⟨2, _⟩ => exact I.headA_ctx 1 2 256 128 6 rfl rfl rfl slices_S512x256_o256_128_S256x64 inb_S8x256x64_S1x256x64_6_0_0 i d
  | ⟨3, _⟩ => exact I.headA_ctx 1 3 256 192 7 rfl rfl rfl slices_S512x256_o256_192_S256x64 inb_S8x256x64_S1x256x64_7_0_0 i d

/-- One entry of the device's partial result: batch entry `b`, position `i`, column `n`. -/
def share (b : Fin 2) (i : Fin 256) (n : Fin 512) : EReal :=
  ∑ k : Fin 256, I.ctx b ⟨k.val / 64, by omega⟩ i ⟨k.val % 64, by omega⟩ * I.wo (ix2 k n)

/-- The first batch entry's half of the partial result. -/
theorem top_at (i : Fin 256) (n : Fin 512) : I.top (ix2 i n) = I.share 0 i n := by
  rw [top_eq, projA_at]
  exact Finset.sum_congr rfl fun k _ => by rw [topHeads_at, wob_at]

/-- The second's half. -/
theorem bot_at (i : Fin 256) (n : Fin 512) : I.bot (ix2 i n) = I.share 1 i n := by
  rw [bot_eq, projA_at]
  exact Finset.sum_congr rfl fun k _ => by rw [botHeads_at, wob_at]

end Ins
end Cert.KernelIdeal.Run

end
-- ==== Proof.Whole.lean ====
/- What every device's output window holds in the end, at the extended reals: the sum of the eight partial results. -/
module

public import proofs.«01_k».proof.Proof.Part

@[expose] public section

noncomputable section

namespace Cert.KernelIdeal.Run

open Idealize.ShloMosaic Idealize.ShloMosaic.TcCoe Idealize.ShloMosaic.ValueIdx
open Cert.KernelIdeal.Gen
open scoped BigOperators

/-- Row `64 e + p` of the 512. -/
def rowAt (e : Fin 8) (p : Fin 64) : Fin 512 := ⟨64 * e.val + p.val, by omega⟩

/-- An entry of a rectangle of whole rows: its own row is the rectangle's first row further on. -/
theorem rows_emb {N R : ℕ} (o : ℕ) (off : Fin 2 → ℕ) (ho : off = ![o, 0])
    (h : ∀ a, off a + (![R, 512] : Fin 2 → ℕ) a ≤ (⟨2, ![N, 512]⟩ : Shape).size a) (p : Fin R) (n : Fin 512) (r : Fin N) (hr : r.val = o + p.val) :
    (Rect.unit (s := ⟨2, ![N, 512]⟩) off ![R, 512] h).emb (ix2 p n) = ix2 r n := by
  subst ho
  funext a
  apply Fin.ext
  match a with
  | ⟨0, _⟩ => exact (unit_val (s := ⟨2, ![N, 512]⟩) ![o, 0] ![R, 512] h (ix2 p n) 0).trans hr.symm
  | ⟨1, _⟩ => exact (unit_val (s := ⟨2, ![N, 512]⟩) ![o, 0] ![R, 512] h (ix2 p n) 1).trans (Nat.zero_add n.val)

/-- A write over whole rows leaves the other rows. -/
theorem rows_other {N R : ℕ} {α : Type} (o : ℕ) (off : Fin 2 → ℕ) (ho : off = ![o, 0])
    (h : ∀ a, off a + (![R, 512] : Fin 2 → ℕ) a ≤ (⟨2, ![N, 512]⟩ : Shape).size a) (G : (⟨2, ![N, 512]⟩ : Shape).Idx → α)
    (v : (⟨2, ![R, 512]⟩ : Shape).Idx → α) (r : Fin N) (n : Fin 512) (hr : ¬ (o ≤ r.val ∧ r.val < o + R)) :
    (Rect.unit (s := ⟨2, ![N, 512]⟩) off ![R, 512] h).overlay G v (ix2 r n) = G (ix2 r n) := by
  subst ho
  refine Rect.overlay_of_not_mem _ _ _ fun hm => hr ?_
  rw [Rect.mem_set_unit] at hm
  exact hm 0

/-- A write over whole rows is read back there. -/
theorem rows_here {N R : ℕ} {α : Type} (o : ℕ) (off : Fin 2 → ℕ) (ho : off = ![o, 0])
    (h : ∀ a, off a + (![R, 512] : Fin 2 → ℕ) a ≤ (⟨2, ![N, 512]⟩ : Shape).size a) (G : (⟨2, ![N, 512]⟩ : Shape).Idx → α)
    (v : (⟨2, ![R, 512]⟩ : Shape).Idx → α) (p : Fin R) (r : Fin N) (n : Fin 512) (hr : r.val = o + p.val) :
    (Rect.unit (s := ⟨2, ![N, 512]⟩) off ![R, 512] h).overlay G v (ix2 r n) = v (ix2 p n) := by
  rw [← rows_emb o off ho h p n r hr]
  exact Rect.overlay_emb _ _ _ _

namespace Ins

variable (I : Ins Ideal)

/-- One entry of the device's partial result, by its row among the 512. -/
def row (r : Fin 512) (n : Fin 512) : EReal := I.share ⟨r.val / 256, by omega⟩ ⟨r.val % 256, by omega⟩ n

/-- The first 256 rows are the first batch entry's. -/
theorem row_top (i : Fin 256) (r : Fin 512) (n : Fin 512) (hr : r.val = i.val) : I.row r n = I.top (ix2 i n) := by
  rw [top_at]
  unfold row
  congr 1
  · exact Fin.ext (by show r.val / 256 = 0; omega)
  · exact Fin.ext (by show r.val % 256 = i.val; omega)

/-- The others are the second's. -/
theorem row_bot (i : Fin 256) (r : Fin 512) (n : Fin 512) (hr : r.val = 256 + i.val) : I.row r n = I.bot (ix2 i n) := by
  rw [bot_at]
  unfold row
  congr 1
  · exact Fin.ext (by show r.val / 256 = 1; omega)
  · exact Fin.ext (by show r.val % 256 = i.val; omega)

/-- The partial result, entry by entry. -/
theorem part_at (r : Fin 512) (n : Fin 512) : I.part (ix2 r n) = I.row r n := by
  unfold part
  by_cases h : r.val < 256
  · refine (rows_other 256 _ rfl inb_S512x512_S256x512_256_0 _ _ r n (by omega)).trans ?_
    refine (rows_here 0 _ rfl inb_S512x512_S256x512_0_0 _ _ ⟨r.val, h⟩ r n (Nat.zero_add _).symm).trans ?_
    exact (I.row_top _ r n rfl).symm
  · refine (rows_here 256 _ rfl inb_S512x512_S256x512_256_0 _ _ ⟨r.val - 256, by omega⟩ r n (by show r.val = 256 + (r.val - 256); omega)).trans ?_
    exact (I.row_bot _ r n (by show r.val = 256 + (r.val - 256); omega)).symm

/-- Sixty-four rows of a half, as sent. -/
theorem slice_at (A : FVec Ideal S256x512 .f32) (o : ℕ) (hs : S256x512.Slices ![o, 0] S64x512) (p : Fin 64) (n : Fin 512) (i : Fin 256) (hi : i.val = o + p.val) :
    shapeCast S1x64x512 (truncf .bf16 (extractStridedSlice S64x512 ![o, 0] A hs) bitsLt_bf16_f32) shapeCasts_S64x512_S1x64x512 (ix3 (0 : Fin 1) p n)
      = A (ix2 i n) := by
  rw [shapeCast_ab_1ab_apply, truncf_apply]
  exact extractStridedSlice_apply (s := S256x512) (t := S64x512) _ A hs (ix2 p n) _ fun a => by
    match a with
    | ⟨0, _⟩ => exact hi
    | ⟨1, _⟩ => exact (Nat.zero_add _).symm

/-- A chunk, entry by entry. -/
theorem chunk_at (k : Fin 8) (p : Fin 64) (n : Fin 512) : I.chunk k (ix3 (0 : Fin 1) p n) = I.row (rowAt k p) n := by
  match k with
  | 0 => exact (slice_at I.top 0 slices_S256x512_o0_0_S64x512 p n ⟨0 + p.val, by omega⟩ rfl).trans (I.row_top _ _ n rfl).symm
  | 1 => exact (slice_at I.top 64 slices_S256x512_o64_0_S64x512 p n ⟨64 + p.val, by omega⟩ rfl).trans (I.row_top _ _ n rfl).symm
  | 2 => exact (slice_at I.top 128 slices_S256x512_o128_0_S64x512 p n ⟨128 + p.val, by omega⟩ rfl).trans (I.row_top _ _ n rfl).symm
  | 3 => exact (slice_at I.top 192 slices_S256x512_o192_0_S64x512 p n ⟨192 + p.val, by omega⟩ rfl).trans (I.row_top _ _ n rfl).symm
  | 4 => exact (slice_at I.bot 0 slices_S256x512_o0_0_S64x512 p n ⟨0 + p.val, by omega⟩ rfl).trans (I.row_bot _ _ n (by show 64 * 4 + p.val = 256 + (0 + p.val); omega)).symm
  | 5 => exact (slice_at I.bot 64 slices_S256x512_o64_0_S64x512 p n ⟨64 + p.val, by omega⟩ rfl).trans (I.row_bot _ _ n (by show 64 * 5 + p.val = 256 + (64 + p.val); omega)).symm
  | 6 => exact (slice_at I.bot 128 slices_S256x512_o128_0_S64x512 p n ⟨128 + p.val, by omega⟩ rfl).trans (I.row_bot _ _ n (by show 64 * 6 + p.val = 256 + (128 + p.val); omega)).symm
  | 7 => exact (slice_at I.bot 192 slices_S256x512_o192_0_S64x512 p n ⟨192 + p.val, by omega⟩ rfl).trans (I.row_bot _ _ n (by show 64 * 7 + p.val = 256 + (192 + p.val); omega)).symm

end Ins

section Exchange

variable (I : Dev nD → Ins Ideal)

/-- The sum of the eight devices' partial results at an entry. -/
def total (r : Fin 512) (n : Fin 512) : EReal := ∑ j : Fin 8, (I j).row r n

/-- A sum over the eight devices, counted back from one of them. -/
theorem sum_back {M : Type} [AddCommMonoid M] (f : Fin 8 → M) (c : Fin 8) :
    f c + f (c - 1) + f (c - 2) + f (c - 3) + f (c - 4) + f (c - 5) + f (c - 6) + f (c - 7) = ∑ j : Fin 8, f j := by
  rw [← Equiv.sum_comp (Equiv.subLeft c) f, Fin.sum_univ_eight]
  simp only [Equiv.subLeft_apply, sub_zero]

/-- A landed chunk widened, at an entry. -/
theorem wide_at (X : S1x64x512.Idx → Elt Ideal .bf16) (p : Fin 64) (n : Fin 512) :
    (extf .f32 (shapeCast S64x512 X shapeCasts_S1x64x512_S64x512) bitsLt_bf16_f32 : FVec Ideal S64x512 .f32) (ix2 p n) = X (ix3 (0 : Fin 1) p n) := by
  rw [extf_apply, shapeCast_1ab_ab_apply]

/-- A device's own rows of its partial result. -/
theorem own0_at (c : Dev nD) (p : Fin 64) (n : Fin 512) : own0 I c (ix2 p n) = (I c).row (rowAt c p) n :=
  (congrArg (I c).part (rows_emb (64 * c.val) _ (Gen.k0_off17_eq c) (Gen.k0_off17_inb c) p n (rowAt c p) rfl)).trans ((I c).part_at _ n)

/-- A device's finished rows are the sum of the eight partial results there. -/
theorem fin_at (c : Dev nD) (p : Fin 64) (n : Fin 512) : fin I c (ix2 p n) = total I (rowAt c p) n := by
  unfold total
  rw [← sum_back (fun j => (I j).row (rowAt c p) n) c]
  have h : ∀ j : Dev nD, P I j c (ix3 (0 : Fin 1) p n) = (I j).row (rowAt c p) n := fun j => (I j).chunk_at c p n
  unfold fin acc6 acc4 acc2 k0_pay30 k0_pay29 k0_pay28 k0_pay27
  simp only [addf_apply, wide_at, h, shapeCast_self, own0_at]

/-- What is sent of them is the same. -/
theorem Fb_at (c : Dev nD) (p : Fin 64) (n : Fin 512) : Fb I c (ix2 p n) = total I (rowAt c p) n := by
  rw [← fin_at]
  unfold Fb k0_pay31
  rw [shapeCast_self, truncf_apply]
  rfl

/-- Rows received are the sender's finished rows. -/
theorem got_at (c : Dev nD) (p : Fin 64) (n : Fin 512) :
    (extf .f32 (shapeCast S64x512 (add1 (Fb I c)) shapeCasts_S1x64x512_S64x512) bitsLt_bf16_f32 : FVec Ideal S64x512 .f32) (ix2 p n) = total I (rowAt c p) n :=
  (congrFun (drop1_add1 (Fb I c)) (ix2 p n)).trans (Fb_at I c p n)

/-- Writing device `e`'s finished rows where they belong: right there, and unchanged elsewhere. -/
theorem put_at (e : Fin 8) (off : Fin 2 → ℕ) (ho : off = ![64 * e.val, 0]) (h : ∀ a, off a + S64x512.size a ≤ S512x512.size a)
    (G : S512x512.Idx → Elt Ideal .f32) (v : S64x512.Idx → Elt Ideal .f32) (hv : ∀ p n, v (ix2 p n) = total I (rowAt e p) n)
    (f : Fin 8) (p : Fin 64) (n : Fin 512) (hG : f = e ∨ G (ix2 (rowAt f p) n) = total I (rowAt f p) n) :
    (Rect.unit (s := S512x512) off S64x512.size h).overlay G v (ix2 (rowAt f p) n) = total I (rowAt f p) n := by
  by_cases hf : f = e
  · subst hf
    exact (rows_here _ off ho h G v p (rowAt f p) n rfl).trans (hv p n)
  · refine (rows_other (64 * e.val) off ho h G v (rowAt f p) n ?_).trans (hG.resolve_left hf)
    intro hr
    apply hf
    apply Fin.ext
    have h1 : 64 * e.val ≤ 64 * f.val + p.val := hr.1
    have h2 : 64 * f.val + p.val < 64 * e.val + 64 := hr.2
    omega

/-- The device counted back from `c`, and the first row it finished. -/
theorem back_off (c : Dev nD) (r : Fin 7) : k0_off23 c (BitVec.ofNat 32 (1 + r.val)) = ![64 * (c - ⟨1 + r.val, by omega⟩ : Fin 8).val, 0] := by
  revert c r
  decide +kernel

/-- Every device is one of the eight counted back from `c`. -/
theorem back_all : ∀ f c : Fin 8, f = c - 7 ∨ f = c - 6 ∨ f = c - 5 ∨ f = c - 4 ∨ f = c - 3 ∨ f = c - 2 ∨ f = c - 1 ∨ f = c := by decide

/-- **Every device's output window ends holding the sum of the eight partial results.** -/
theorem outF_at (c : Dev nD) (f : Fin 8) (p : Fin 64) (n : Fin 512) : outF I c (ix2 (rowAt f p) n) = total I (rowAt f p) n := by
  refine put_at I (c - 7) _ (back_off c 6) _ _ _ (got_at I (c - 7)) f p n ((back_all f c).imp id fun h => ?_)
  refine put_at I (c - 6) _ (back_off c 5) _ _ _ (got_at I (c - 6)) f p n (h.imp id fun h => ?_)
  refine put_at I (c - 5) _ (back_off c 4) _ _ _ (got_at I (c - 5)) f p n (h.imp id fun h => ?_)
  refine put_at I (c - 4) _ (back_off c 3) _ _ _ (got_at I (c - 4)) f p n (h.imp id fun h => ?_)
  refine put_at I (c - 3) _ (back_off c 2) _ _ _ (got_at I (c - 3)) f p n (h.imp id fun h => ?_)
  refine put_at I (c - 2) _ (back_off c 1) _ _ _ (got_at I (c - 2)) f p n (h.imp id fun h => ?_)
  refine put_at I (c - 1) _ (back_off c 0) _ _ _ (got_at I (c - 1)) f p n (h.imp id fun h => ?_)
  exact put_at I c _ (Gen.k0_off17_eq c) _ _ _ (fin_at I c) f p n (.inl h)

end Exchange

end Cert.KernelIdeal.Run

end
-- ==== Proof.Feed.lean ====
/- What the kernel's region is given: the arguments' rows, columns and heads, as the operations before it cut them. -/
module

public import proofs.«01_k».proof.Proof.Whole
public import proofs.«01_k».proof.Proof.Launch
public import Idealize.ShloMosaic.Lib.DynamicIndex
public import Idealize.ShloMosaic.Lib.StableHlo.RunClose

@[expose] public section

noncomputable section

namespace Cert.KernelIdeal.Run

open Idealize.ShloMosaic Idealize.ShloMosaic.TcCoe Idealize.ShloMosaic.ValueIdx Idealize.ShloMosaic.StableHlo
open Cert.KernelIdeal Cert.KernelIdeal.Gen
open scoped BigOperators

/-- Four times the device's number, as the program computes it. -/
def quarter (d : Dev nD) : IVec S_ 32 :=
  muli (id (Host.remui (Host.divui (constantI S_ 32 (Dev.word d)) (constantI S_ 32 1#32)) (constantI S_ 32 8#32))) (constantI S_ 32 4#32)

/-- The first head a device takes. -/
def firstHead (d : Dev nD) : IVec S_ 32 :=
  select (cmpi .slt (quarter d) (constantI S_ 32 0#32)) (addi (quarter d) (constantI S_ 32 32#32)) (quarter d)

/-- It is head `4 d`. -/
theorem firstHead_val : ∀ d : Dev nD, (firstHead d (Shape.Idx.first h_S_)).toInt = ((4 * d.val : ℕ) : ℤ) := by decide +kernel

variable (m : (ℓ : Loc nD τ sig) → Buf (Elt Ideal) ℓ)

/-- A device's heads of the keys or of the values, one after the other. -/
def picked (d : Dev nD) (A : FVec Ideal S2x256x32x64 .f32) : FVec Ideal S8x256x64 .f32 :=
  shapeCast S8x256x64 (transpose S2x4x256x64 [0, 2, 1, 3]
    (Host.dynamicSlice S2x256x4x64 A
      (fun k => ((![constantI S_ 32 0#32, constantI S_ 32 0#32, firstHead d, constantI S_ 32 0#32] : Fin 4 → IVec S_ 32) k (Shape.Idx.first h_S_)).toInt) sliceFits_S2x256x32x64_S2x256x4x64)
    transposes_S2x256x4x64_S2x4x256x64_0_2_1_3) shapeCasts_S2x4x256x64_S8x256x64

/-- An entry of them: the device's head `h` of batch entry `b`, at a position and a lane. -/
theorem picked_at (d : Dev nD) (A : FVec Ideal S2x256x32x64 .f32) (b : Fin 2) (h : Fin 4) (j : Fin 256) (e : Fin 64) :
    picked d A (ix3 (Ins.slab b h) j e) = A (ix4 b j (⟨4 * d.val + h.val, by have : d.val < 8 := d.isLt; omega⟩ : Fin 32) e) := by
  have hd : d.val < 8 := d.isLt
  have hs : S2x256x32x64.Slices ![0, 0, 4 * d.val, 0] S2x256x4x64 :=
    ⟨rfl, fun a => match a with
      | ⟨0, _⟩ => (by decide : 0 + 2 ≤ 2)
      | ⟨1, _⟩ => (by decide : 0 + 256 ≤ 256)
      | ⟨2, _⟩ => (by omega : 4 * d.val + 4 ≤ 32)
      | ⟨3, _⟩ => (by decide : 0 + 64 ≤ 64)⟩
  unfold picked
  rw [Host.dynamicSlice_eq_extractStridedSlice S2x256x4x64 A _ ![0, 0, 4 * d.val, 0] _ hs fun a => match a with
      | ⟨0, _⟩ => rfl
      | ⟨1, _⟩ => rfl
      | ⟨2, _⟩ => firstHead_val d
      | ⟨3, _⟩ => rfl]
  refine (shapeCast_apply _ _ (ix3 (Ins.slab b h) j e) (ix4 b h j e) ?_).trans ?_
  · rw [Shape.rowMajor_val_four, Shape.rowMajor_val_three]
    show ((b.val * 4 + h.val) * 256 + j.val) * 64 + e.val = ((4 * b.val + h.val) * 256 + j.val) * 64 + e.val
    omega
  refine (transpose_apply _ _ _ (ix4 b h j e) (ix4 b j h e) fun a => match a with
    | ⟨0, _⟩ => rfl
    | ⟨1, _⟩ => rfl
    | ⟨2, _⟩ => rfl
    | ⟨3, _⟩ => rfl).trans ?_
  exact extractStridedSlice_apply (s := S2x256x32x64) (t := S2x256x4x64) _ A hs (ix4 b j h e) _ fun a => match a with
    | ⟨0, _⟩ => (Nat.zero_add _).symm
    | ⟨1, _⟩ => (Nat.zero_add _).symm
    | ⟨2, _⟩ => rfl
    | ⟨3, _⟩ => (Nat.zero_add _).symm

/-- The keys the region is given. -/
theorem keys_eq (c : Dev nD) : V1 m c main_v17 = picked c (m ((c.tc : Thread nD τ).loc main_arg2)) := by
  after_results_simp_entrywise
  all_goals rfl

/-- The values it is given. -/
theorem values_eq (c : Dev nD) : V1 m c main_v19 = picked c (m ((c.tc : Thread nD τ).loc main_arg3)) := by
  after_results_simp_entrywise
  all_goals rfl

/-- The input's rows it is given. -/
theorem rows_eq (c : Dev nD) : V1 m c main_v5 = shapeCast S512x512 (m ((c.tc : Thread nD τ).loc main_arg0)) shapeCasts_S2x256x512_S512x512 := by
  after_results_simp_entrywise
  all_goals rfl

section Given

variable (X : S2x256x512.Idx → EReal) (WQ : (⟨2, ![512, 2048]⟩ : Shape).Idx → EReal) (K W : S2x256x32x64.Idx → EReal)
  (WO : (⟨2, ![2048, 512]⟩ : Shape).Idx → EReal)

/-- What the launch holds: the input, the keys and the values on every device, and every device's columns and rows of the
    two matrices. -/
structure Given : Prop where
  x : ∀ c : Dev nD, m ((c.tc : Thread nD τ).loc main_arg0) = X
  wq : ∀ c : Dev nD, m ((c.tc : Thread nD τ).loc main_arg1) = Layout.block ⟨2, ![512, 256]⟩ ⟨2, ![512, 2048]⟩ 1 8 c WQ
  k : ∀ c : Dev nD, m ((c.tc : Thread nD τ).loc main_arg2) = K
  v : ∀ c : Dev nD, m ((c.tc : Thread nD τ).loc main_arg3) = W
  wo : ∀ c : Dev nD, m ((c.tc : Thread nD τ).loc main_arg4) = Layout.block ⟨2, ![256, 512]⟩ ⟨2, ![2048, 512]⟩ 0 8 c WO

variable {m X WQ K W WO} (G : Given m X WQ K W WO)
include G

/-- Head `h` of the device's four is head `4 c + h` of the thirty-two. -/
def headOf (c h : ℕ) (hc : c < 8) (hh : h < 4) : Fin 32 := ⟨4 * c + h, by omega⟩

/-- The region's input rows are the input's. -/
theorem given_x (c : Dev nD) (b : Fin 2) (i : Fin 256) (d : Fin 512) :
    (vals m c).x (ix2 (⟨256 * b.val + i.val, by omega⟩ : Fin 512) d) = X (ix3 b i d) := by
  refine (congrFun (rows_eq m c) _).trans ?_
  rw [G.x c]
  refine shapeCast_apply _ _ _ (ix3 b i d) ?_
  rw [Shape.rowMajor_val_three, Shape.rowMajor_val_two]
  show (b.val * 256 + i.val) * 512 + d.val = (256 * b.val + i.val) * 512 + d.val
  omega

/-- Its columns of the query weights are the matrix's. -/
theorem given_wq (c : Dev nD) (h : Fin 4) (d : Fin 64) (e : Fin 512) :
    (vals m c).wq (ix2 e (⟨64 * h.val + d.val, by omega⟩ : Fin 256)) = WQ (ix2 e (Cert.Spec.lane (headOf c.val h.val c.isLt h.isLt) d)) := by
  refine (congrFun ((V1_of m c main_arg1 (by decide)).trans (G.wq c)) _).trans ?_
  rw [Layout.block_apply]
  congr 1
  funext a
  apply Fin.ext
  match a with
  | ⟨0, _⟩ => rfl
  | ⟨1, _⟩ =>
    show c.val * 256 + (64 * h.val + d.val) = 64 * (4 * c.val + h.val) + d.val
    omega

/-- Its keys are the heads' keys. -/
theorem given_k (c : Dev nD) (b : Fin 2) (h : Fin 4) (j : Fin 256) (d : Fin 64) :
    (vals m c).kh (ix3 (Ins.slab b h) j d) = K (ix4 b j (headOf c.val h.val c.isLt h.isLt) d) := by
  refine (congrFun (keys_eq m c) _).trans ?_
  rw [G.k c]
  exact picked_at c K b h j d

/-- Its values are the heads' values. -/
theorem given_v (c : Dev nD) (b : Fin 2) (h : Fin 4) (j : Fin 256) (d : Fin 64) :
    (vals m c).vh (ix3 (Ins.slab b h) j d) = W (ix4 b j (headOf c.val h.val c.isLt h.isLt) d) := by
  refine (congrFun (values_eq m c) _).trans ?_
  rw [G.v c]
  exact picked_at c W b h j d

/-- Its rows of the output weights are the matrix's. -/
theorem given_wo (c : Dev nD) (k : Fin 256) (n : Fin 512) : (vals m c).wo (ix2 k n) = WO (ix2 (Cert.Spec.seat c k) n) := by
  refine (congrFun ((V1_of m c main_arg4 (by decide)).trans (G.wo c)) _).trans ?_
  rw [Layout.block_apply]
  congr 1
  funext a
  apply Fin.ext
  match a with
  | ⟨0, _⟩ =>
    show c.val * 256 + k.val = 256 * c.val + k.val
    omega
  | ⟨1, _⟩ => rfl

/-- A device's head gives what the head of that number gives. -/
theorem ctx_eq (c : Dev nD) (b : Fin 2) (h : Fin 4) (i : Fin 256) (d : Fin 64) :
    (vals m c).ctx b h i d = Cert.Spec.context X WQ K W b (headOf c.val h.val c.isLt h.isLt) i d := by
  unfold Ins.ctx Cert.Spec.context
  have hq : (fun (i : Fin 256) (d : Fin 64) => (vals m c).qs (ix2 (⟨256 * b.val + i.val, by omega⟩ : Fin 512) (⟨64 * h.val + d.val, by omega⟩ : Fin 256)))
      = fun i d => Cert.Spec.query X WQ b i (Cert.Spec.lane (headOf c.val h.val c.isLt h.isLt) d) :=
    funext fun i => funext fun d => by
      rw [Ins.qs_at]
      exact Finset.sum_congr rfl fun e _ => by rw [given_x G c b i e, given_wq G c h d e]
  have hk : (fun (j : Fin 256) (d : Fin 64) => (vals m c).kh (ix3 (Ins.slab b h) j d)) = fun j d => K (ix4 b j (headOf c.val h.val c.isLt h.isLt) d) :=
    funext fun j => funext fun d => given_k G c b h j d
  have hv : (fun (j : Fin 256) (d : Fin 64) => (vals m c).vh (ix3 (Ins.slab b h) j d)) = fun j d => W (ix4 b j (headOf c.val h.val c.isLt h.isLt) d) :=
    funext fun j => funext fun d => given_v G c b h j d
  rw [hq, hk, hv]

/-- A device's partial result is the sum of its 256 products. -/
theorem share_eq (c : Dev nD) (b : Fin 2) (i : Fin 256) (n : Fin 512) :
    (vals m c).share b i n = ∑ k : Fin 256, Cert.Spec.term X WQ K W WO b i n (Cert.Spec.seat c k) := by
  unfold Ins.share Cert.Spec.term
  refine Finset.sum_congr rfl fun k _ => ?_
  rw [ctx_eq G, given_wo G]
  have hc : c.val < 8 := c.isLt
  have h1 : headOf c.val (k.val / 64) hc (by omega) = ⟨(Cert.Spec.seat c k).val / 64, by have := (Cert.Spec.seat c k).isLt; omega⟩ :=
    Fin.ext (by show 4 * c.val + k.val / 64 = (256 * c.val + k.val) / 64; omega)
  have h2 : (⟨k.val % 64, by omega⟩ : Fin 64) = ⟨(Cert.Spec.seat c k).val % 64, by omega⟩ :=
    Fin.ext (by show k.val % 64 = (256 * c.val + k.val) % 64; omega)
  rw [h2]
  exact congrArg (fun h => Cert.Spec.context X WQ K W b h i _ * _) h1

/-- **Every device's result, entry by entry, is the mathematics' result.** -/
theorem result_at (c : Dev nD) (b : Fin 2) (i : Fin 256) (n : Fin 512) :
    V3 m (outs m) c main_v21 (ix3 b i n) = Cert.Spec.result X WQ K W WO b i n := by
  have hv : V3 m (outs m) c main_v21 = shapeCast S2x256x512 (V2 m (outs m) c main_v20) shapeCasts_S512x512_S2x256x512 := by
    after_results_simp_entrywise
    all_goals rfl
  rw [hv, V2_out, Cert.Spec.result_eq]
  refine (shapeCast_apply _ _ _ (ix2 (rowAt ⟨(256 * b.val + i.val) / 64, by omega⟩ ⟨i.val % 64, by omega⟩) n) ?_).trans ?_
  · rw [Shape.rowMajor_val_three, Shape.rowMajor_val_two]
    show (64 * ((256 * b.val + i.val) / 64) + i.val % 64) * 512 + n.val = (b.val * 256 + i.val) * 512 + n.val
    omega
  refine (outF_at (vals m) c _ _ n).trans (Finset.sum_congr rfl fun j _ => ?_)
  rw [← share_eq G j b i n]
  unfold Ins.row
  congr 1
  · exact Fin.ext (by show (64 * ((256 * b.val + i.val) / 64) + i.val % 64) / 256 = b.val; omega)
  · exact Fin.ext (by show (64 * ((256 * b.val + i.val) / 64) + i.val % 64) % 256 = i.val; omega)

end Given

end Cert.KernelIdeal.Run

end
-- ==== Proof.Refs.lean ====
/- What the reference computes, at the extended reals: its composed term, read entry by entry as the mathematics of Spec. -/
module

public import proofs.«01_k».proof.Proof.Spec
public import proofs.«01_k».proof.Proof.Gen.ReferenceIdeal.Run
public import Idealize.ShloMosaic.Lib.MatmulPlain
public import Idealize.ShloMosaic.Lib.Pipeline.Value

@[expose] public section

noncomputable section

namespace Cert.ReferenceIdeal.Read

open Idealize.ShloMosaic Idealize.ShloMosaic.TcCoe Idealize.ShloMosaic.ValueIdx
open Cert.ReferenceIdeal Cert.ReferenceIdeal.Gen
open scoped BigOperators

/-! ## The mask -/

/-- The positions as a column, -/
def colR : IVec S256x1 32 := broadcastInDim S256x1 ![0] bcast_S256_S256x1_0 (iotaInDim S256 32 0)
/-- and as a row. -/
def lineR : IVec S1x256 32 := broadcastInDim S1x256 ![1] bcast_S256_S1x256_1 (iotaInDim S256 32 0)

/-- The reference's mask. -/
def maskR : IVec S256x256 1 :=
  ori (cmpi .sle (absi (subi (broadcastInDim S256x256 ![0, 1] bcast_S256x1_S256x256_0_1 colR) (broadcastInDim S256x256 ![0, 1] bcast_S1x256_S256x256_0_1 lineR)))
      (broadcastInDim S256x256 ![] bcast_S_S256x256 (constantI S_ 32 128#32)))
    (ori (broadcastInDim S256x256 ![0, 1] bcast_S1x256_S256x256_0_1 (cmpi .slt lineR (broadcastInDim S1x256 ![] bcast_S_S1x256 (constantI S_ 32 32#32))))
      (broadcastInDim S256x256 ![0, 1] bcast_S256x1_S256x256_0_1 (cmpi .slt colR (broadcastInDim S256x1 ![] bcast_S_S256x1 (constantI S_ 32 32#32)))))

/-- A column spread over the square reads its row, -/
theorem col_at {α : Type} (x : S256x1.Idx → α) (i j : Fin 256) :
    broadcastInDim S256x256 ![0, 1] bcast_S256x1_S256x256_0_1 x (ix2 i j) = x (ix2 i (0 : Fin 1)) :=
  broadcastInDim_apply _ _ _ _ _ fun a => match a with | ⟨0, _⟩ => rfl | ⟨1, _⟩ => rfl

/-- and a row its column. -/
theorem line_at {α : Type} (x : S1x256.Idx → α) (i j : Fin 256) :
    broadcastInDim S256x256 ![0, 1] bcast_S1x256_S256x256_0_1 x (ix2 i j) = x (ix2 (0 : Fin 1) j) :=
  broadcastInDim_apply _ _ _ _ _ fun a => match a with | ⟨0, _⟩ => rfl | ⟨1, _⟩ => rfl

/-- The mask at a pair of positions. -/
theorem maskR_at (i j : Fin 256) : maskR (ix2 i j) = Cert.Spec.allowed i j := by
  have hc : colR (ix2 i (0 : Fin 1)) = BitVec.ofNat 32 i.val := rfl
  have hl : lineR (ix2 (0 : Fin 1) j) = BitVec.ofNat 32 j.val := rfl
  have h1 := col_at colR i j
  have h2 := line_at lineR i j
  have h3 := line_at (cmpi .slt lineR (broadcastInDim S1x256 ![] bcast_S_S1x256 (constantI S_ 32 32#32))) i j
  have h4 := col_at (cmpi .slt colR (broadcastInDim S256x1 ![] bcast_S_S256x1 (constantI S_ 32 32#32))) i j
  unfold Cert.Spec.allowed
  rw [← hc, ← hl, ← h1, ← h2]
  refine Eq.trans ?_ (BitVec.or_assoc _ _ _).symm
  show IntOp.ori _ (IntOp.ori _ _) = _
  rw [h3, h4]
  rfl

/-- Whether a position may attend to any. -/
def keepR : IVec S256 1 := Host.reduce IntOp.ori maskR (constantI S_ 1 0#1) reducesTo_S256x256_S256_d1 h_S_

/-- Every position may attend to itself. -/
theorem allowed_self : ∀ i : Fin 256, Cert.Spec.allowed i i = 1#1 := by decide +kernel

/-- A disjunction over the positions that holds at one of them holds. -/
theorem some_of_one [Std.Commutative (IntOp.ori (w := 1))] [Std.Associative (IntOp.ori (w := 1))] (f : Fin 256 → BitVec 1) (z : BitVec 1) (i : Fin 256)
    (h : f i = 1#1) : (Finset.univ : Finset (Fin 256)).fold IntOp.ori z f = 1#1 := by
  rw [← Finset.insert_erase (Finset.mem_univ i), Finset.fold_insert (Finset.notMem_erase i _), h]
  exact (by decide : ∀ x : BitVec 1, IntOp.ori 1#1 x = 1#1) _

/-- So every position is kept. -/
theorem keepR_at (i : Fin 256) : keepR (ix1 i) = 1#1 := by
  haveI : Std.Commutative (IntOp.ori (w := 1)) := ⟨BitVec.or_comm⟩
  haveI : Std.Associative (IntOp.ori (w := 1)) := ⟨BitVec.or_assoc⟩
  have r : S256x256.Reduces [1] S256 := by decide
  refine (Host.reduce_eq_fold_single IntOp.ori maskR _ reducesTo_S256x256_S256_d1 r h_S_ (ix1 i)).trans (some_of_one _ _ i ?_)
  refine (congrArg maskR (?_ : r.lift (ix1 i) i = ix2 i i)).trans ((maskR_at i i).trans (allowed_self i))
  funext a
  match a with
  | ⟨0, _⟩ => rfl
  | ⟨1, _⟩ => rfl

/-! ## One number per row of positions, spread -/

/-- A number per row, spread over the row's positions. -/
def spreadR {α : Type} (x : S2x32x256x1.Idx → α) : S2x32x256x256.Idx → α :=
  broadcastInDim S2x32x256x256 ![0, 1, 2, 3] bcast_S2x32x256x1_S2x32x256x256_0_1_2_3 x

/-- It reads the row's number. -/
theorem spreadR_at {α : Type} (x : S2x32x256x1.Idx → α) (b : Fin 2) (h : Fin 32) (i j : Fin 256) :
    spreadR x (ix4 b h i j) = x (ix4 b h i (0 : Fin 1)) :=
  broadcastInDim_apply _ _ _ _ _ fun a => match a with | ⟨0, _⟩ => rfl | ⟨1, _⟩ => rfl | ⟨2, _⟩ => rfl | ⟨3, _⟩ => rfl

/-- A row's number as a column of one. -/
def asCol {α : Type} (x : S2x32x256.Idx → α) : S2x32x256x1.Idx → α :=
  broadcastInDim S2x32x256x1 ![0, 1, 2] bcast_S2x32x256_S2x32x256x1_0_1_2 x

/-- It reads the same number. -/
theorem asCol_at {α : Type} (x : S2x32x256.Idx → α) (b : Fin 2) (h : Fin 32) (i : Fin 256) :
    asCol x (ix4 b h i (0 : Fin 1)) = x (ix3 b h i) :=
  broadcastInDim_apply _ _ _ _ _ fun a => match a with | ⟨0, _⟩ => rfl | ⟨1, _⟩ => rfl | ⟨2, _⟩ => rfl

/-- Whether a row is kept, as a column. -/
def keepCol : IVec S1x1x256x1 1 := broadcastInDim S1x1x256x1 ![2] bcast_S256_S1x1x256x1_2 keepR

/-- It holds of every row. -/
theorem keepCol_at (i : Fin 256) : keepCol (ix4 (0 : Fin 1) (0 : Fin 1) i (0 : Fin 1)) = 1#1 :=
  (broadcastInDim_apply _ _ _ _ (ix1 i) fun a => match a with | ⟨0, _⟩ => rfl).trans (keepR_at i)

/-- The inserted column of a row's reduction. -/
theorem lift_row (r : S2x32x256x256.Reduces [3] S2x32x256) (b : Fin 2) (h : Fin 32) (i k : Fin 256) : r.lift (ix3 b h i) k = ix4 b h i k := by
  funext a
  match a with
  | ⟨0, _⟩ => rfl
  | ⟨1, _⟩ => rfl
  | ⟨2, _⟩ => rfl
  | ⟨3, _⟩ => rfl

/-! ## The products -/

/-- The queries' product. -/
theorem queries_at (X : FVec Ideal S2x256x512 .f32) (WQ : FVec Ideal S512x2048 .f32) (b : Fin 2) (i : Fin 256) (n : Fin 2048) :
    (Host.dotGeneral dot_S2x256x512_S512x2048_S2x256x2048_2_0_01_1_n_n none X WQ : FVec Ideal S2x256x2048 .f32) (ix3 b i n) = Cert.Spec.query X WQ b i n := by
  refine (Ideal.dotGeneral_apply _ _ _ _ _ _).trans ?_
  rw [← Equiv.sum_comp (contrEquiv1 dot_S2x256x512_S512x2048_S2x256x2048_2_0_01_1_n_n 512 rfl rfl).symm]
  refine Finset.sum_congr rfl fun k _ => ?_
  have hk := contrEquiv1_symm_val dot_S2x256x512_S512x2048_S2x256x2048_2_0_01_1_n_n 512 rfl rfl k
  refine congrArg₂ (· * ·) (congrArg X ?_) (congrArg WQ ?_)
  · funext a
    apply Fin.ext
    match a with
    | ⟨0, _⟩ => rfl
    | ⟨1, _⟩ => rfl
    | ⟨2, _⟩ => exact hk
  · funext a
    apply Fin.ext
    match a with
    | ⟨0, _⟩ => exact hk
    | ⟨1, _⟩ => rfl

/-- The scores' product. -/
theorem scores_at (Q K : FVec Ideal S2x256x32x64 .f32) (b : Fin 2) (h : Fin 32) (i j : Fin 256) :
    (Host.dotGeneral dot_S2x256x32x64_S2x256x32x64_S2x32x256x256_3_3_1_1_02_02 none Q K : FVec Ideal S2x32x256x256 .f32) (ix4 b h i j)
      = ∑ d : Fin 64, Q (ix4 b i h d) * K (ix4 b j h d) := by
  refine (Ideal.dotGeneral_apply _ _ _ _ _ _).trans ?_
  rw [← Equiv.sum_comp (contrEquiv1 dot_S2x256x32x64_S2x256x32x64_S2x32x256x256_3_3_1_1_02_02 64 rfl rfl).symm]
  refine Finset.sum_congr rfl fun k _ => ?_
  have hk := contrEquiv1_symm_val dot_S2x256x32x64_S2x256x32x64_S2x32x256x256_3_3_1_1_02_02 64 rfl rfl k
  refine congrArg₂ (· * ·) (congrArg Q ?_) (congrArg K ?_)
  all_goals
    funext a
    apply Fin.ext
    match a with
    | ⟨0, _⟩ => rfl
    | ⟨1, _⟩ => rfl
    | ⟨2, _⟩ => rfl
    | ⟨3, _⟩ => exact hk

/-- The values' product. -/
theorem mixed_at (W : FVec Ideal S2x256x32x64 .f32) (A : FVec Ideal S2x32x256x256 .f32) (b : Fin 2) (h : Fin 32) (d : Fin 64) (i : Fin 256) :
    (Host.dotGeneral dot_S2x256x32x64_S2x32x256x256_S2x32x64x256_1_3_3_2_02_01 none W A : FVec Ideal S2x32x64x256 .f32) (ix4 b h d i)
      = ∑ j : Fin 256, W (ix4 b j h d) * A (ix4 b h i j) := by
  refine (Ideal.dotGeneral_apply _ _ _ _ _ _).trans ?_
  rw [← Equiv.sum_comp (contrEquiv1 dot_S2x256x32x64_S2x32x256x256_S2x32x64x256_1_3_3_2_02_01 256 rfl rfl).symm]
  refine Finset.sum_congr rfl fun k _ => ?_
  have hk := contrEquiv1_symm_val dot_S2x256x32x64_S2x32x256x256_S2x32x64x256_1_3_3_2_02_01 256 rfl rfl k
  refine congrArg₂ (· * ·) (congrArg W ?_) (congrArg A ?_)
  · funext a
    apply Fin.ext
    match a with
    | ⟨0, _⟩ => rfl
    | ⟨1, _⟩ => exact hk
    | ⟨2, _⟩ => rfl
    | ⟨3, _⟩ => rfl
  · funext a
    apply Fin.ext
    match a with
    | ⟨0, _⟩ => rfl
    | ⟨1, _⟩ => rfl
    | ⟨2, _⟩ => rfl
    | ⟨3, _⟩ => exact hk

/-- The last projection. -/
theorem projected_at (C : FVec Ideal S2x256x2048 .f32) (WO : FVec Ideal S2048x512 .f32) (b : Fin 2) (i : Fin 256) (n : Fin 512) :
    (Host.dotGeneral dot_S2x256x2048_S2048x512_S2x256x512_2_0_01_1_n_n none C WO : FVec Ideal S2x256x512 .f32) (ix3 b i n)
      = ∑ k : Fin 2048, C (ix3 b i k) * WO (ix2 k n) := by
  refine (Ideal.dotGeneral_apply _ _ _ _ _ _).trans ?_
  rw [← Equiv.sum_comp (contrEquiv1 dot_S2x256x2048_S2048x512_S2x256x512_2_0_01_1_n_n 2048 rfl rfl).symm]
  refine Finset.sum_congr rfl fun k _ => ?_
  have hk := contrEquiv1_symm_val dot_S2x256x2048_S2048x512_S2x256x512_2_0_01_1_n_n 2048 rfl rfl k
  refine congrArg₂ (· * ·) (congrArg C ?_) (congrArg WO ?_)
  · funext a
    apply Fin.ext
    match a with
    | ⟨0, _⟩ => rfl
    | ⟨1, _⟩ => rfl
    | ⟨2, _⟩ => exact hk
  · funext a
    apply Fin.ext
    match a with
    | ⟨0, _⟩ => exact hk
    | ⟨1, _⟩ => rfl

/-! ## The stages -/

/-- The masked, scaled scores. -/
def scoresR (X : FVec Ideal S2x256x512 .f32) (WQ : FVec Ideal S512x2048 .f32) (K : FVec Ideal S2x256x32x64 .f32) : FVec Ideal S2x32x256x256 .f32 :=
  select (broadcastInDim S2x32x256x256 ![0, 1, 2, 3] bcast_S1x1x256x256_S2x32x256x256_0_1_2_3 (broadcastInDim S1x1x256x256 ![2, 3] bcast_S256x256_S1x1x256x256_2_3 maskR))
    (mulf (Host.dotGeneral dot_S2x256x32x64_S2x256x32x64_S2x32x256x256_3_3_1_1_02_02 none
        (shapeCast S2x256x32x64 (Host.dotGeneral dot_S2x256x512_S512x2048_S2x256x2048_2_0_01_1_n_n none X WQ : FVec Ideal S2x256x2048 .f32) shapeCasts_S2x256x2048_S2x256x32x64) K)
      (broadcastInDim S2x32x256x256 ![] bcast_S_S2x32x256x256 (constant S_ .f32 0x3E000000#32)))
    (broadcastInDim S2x32x256x256 ![] bcast_S_S2x32x256x256 (id (constant S_ .f32 0xCE6E6B28#32)))

/-- The exponentials of the scores less their row's largest. -/
def expR (s : FVec Ideal S2x32x256x256 .f32) : FVec Ideal S2x32x256x256 .f32 :=
  Host.exp (subf s (spreadR (asCol (Host.reduce FloatOps.maximumf s (constant S_ .f32 0xFF800000#32) reducesTo_S2x32x256x256_S2x32x256_d3 h_S_))))

/-- Their sums, or one where a row is not kept. -/
def sumR (e : FVec Ideal S2x32x256x256 .f32) : FVec Ideal S2x32x256x1 .f32 :=
  select (broadcastInDim S2x32x256x1 ![0, 1, 2, 3] bcast_S1x1x256x1_S2x32x256x1_0_1_2_3 keepCol)
    (asCol (Host.reduceAdd e (constant S_ .f32 0x00000000#32) reducesTo_S2x32x256x256_S2x32x256_d3 h_S_))
    (broadcastInDim S2x32x256x1 ![] bcast_S_S2x32x256x1 (id (constant S_ .f32 0x3F800000#32)))

/-- The weights, or zero where a row is not kept. -/
def weightR (e : FVec Ideal S2x32x256x256 .f32) : FVec Ideal S2x32x256x256 .f32 :=
  select (broadcastInDim S2x32x256x256 ![0, 1, 2, 3] bcast_S1x1x256x1_S2x32x256x256_0_1_2_3 keepCol)
    (Host.divf e (spreadR (sumR e)))
    (broadcastInDim S2x32x256x256 ![] bcast_S_S2x32x256x256 (id (constant S_ .f32 0x00000000#32)))

/-- All heads' results side by side. -/
def ctxR (W : FVec Ideal S2x256x32x64 .f32) (A : FVec Ideal S2x32x256x256 .f32) : FVec Ideal S2x256x2048 .f32 :=
  shapeCast S2x256x2048 (transpose S2x256x32x64 [0, 3, 1, 2]
    (Host.dotGeneral dot_S2x256x32x64_S2x32x256x256_S2x32x64x256_1_3_3_2_02_01 none W A : FVec Ideal S2x32x64x256 .f32) transposes_S2x32x64x256_S2x256x32x64_0_3_1_2)
    shapeCasts_S2x256x32x64_S2x256x2048

/-- A score. -/
theorem scoresR_at (X : FVec Ideal S2x256x512 .f32) (WQ : FVec Ideal S512x2048 .f32) (K : FVec Ideal S2x256x32x64 .f32) (b : Fin 2) (h : Fin 32) (i j : Fin 256) :
    scoresR X WQ K (ix4 b h i j)
      = Cert.Spec.score (fun i d => Cert.Spec.query X WQ b i (Cert.Spec.lane h d)) (fun j d => K (ix4 b j h d)) i j := by
  unfold scoresR Cert.Spec.score
  rw [select_apply, mulf_apply, scores_at, broadcastInDim_scalar_apply, broadcastInDim_scalar_apply]
  have hm : broadcastInDim S2x32x256x256 ![0, 1, 2, 3] bcast_S1x1x256x256_S2x32x256x256_0_1_2_3
      (broadcastInDim S1x1x256x256 ![2, 3] bcast_S256x256_S1x1x256x256_2_3 maskR) (ix4 b h i j) = Cert.Spec.allowed i j := by
    refine (broadcastInDim_apply _ _ _ _ (ix4 (0 : Fin 1) (0 : Fin 1) i j) fun a => match a with | ⟨0, _⟩ => rfl | ⟨1, _⟩ => rfl | ⟨2, _⟩ => rfl | ⟨3, _⟩ => rfl).trans ?_
    exact (broadcastInDim_apply _ _ _ _ (ix2 i j) fun a => match a with | ⟨0, _⟩ => rfl | ⟨1, _⟩ => rfl).trans (maskR_at i j)
  have hq : ∀ d : Fin 64, shapeCast S2x256x32x64 (Host.dotGeneral dot_S2x256x512_S512x2048_S2x256x2048_2_0_01_1_n_n none X WQ : FVec Ideal S2x256x2048 .f32)
      shapeCasts_S2x256x2048_S2x256x32x64 (ix4 b i h d) = Cert.Spec.query X WQ b i (Cert.Spec.lane h d) := fun d => by
    refine (shapeCast_apply _ _ _ (ix3 b i (Cert.Spec.lane h d)) ?_).trans (queries_at X WQ b i _)
    rw [Shape.rowMajor_val_three, Shape.rowMajor_val_four]
    show (b.val * 256 + i.val) * 2048 + (64 * h.val + d.val) = ((b.val * 256 + i.val) * 32 + h.val) * 64 + d.val
    omega
  rw [hm]
  simp only [hq]
  rfl

/-- An exponential. -/
theorem expR_at (s : FVec Ideal S2x32x256x256 .f32) (b : Fin 2) (h : Fin 32) (i j : Fin 256) :
    expR s (ix4 b h i j) = Cert.Spec.lifted (fun i j => s (ix4 b h i j)) i j := by
  unfold expR Cert.Spec.lifted
  show Ideal.exp (s (ix4 b h i j) - spreadR _ (ix4 b h i j)) = _
  rw [spreadR_at, asCol_at]
  refine congrArg (fun x => Ideal.exp (s (ix4 b h i j) - x)) ?_
  refine (Host.reduce_eq_fold_single FloatOps.maximumf s _ reducesTo_S2x32x256x256_S2x32x256_d3 (by decide) h_S_ (ix3 b h i)).trans ?_
  unfold Cert.Spec.rowMax
  exact congrArg (fun f => Finset.fold max _ f _) (funext fun k => congrArg s (lift_row _ b h i k))

/-- A row's sum: every row is kept. -/
theorem sumR_at (e : FVec Ideal S2x32x256x256 .f32) (b : Fin 2) (h : Fin 32) (i : Fin 256) :
    sumR e (ix4 b h i (0 : Fin 1)) = ∑ j : Fin 256, e (ix4 b h i j) := by
  unfold sumR
  have hk : broadcastInDim S2x32x256x1 ![0, 1, 2, 3] bcast_S1x1x256x1_S2x32x256x1_0_1_2_3 keepCol (ix4 b h i (0 : Fin 1)) = 1#1 :=
    (broadcastInDim_apply _ _ _ _ (ix4 (0 : Fin 1) (0 : Fin 1) i (0 : Fin 1)) fun a => match a with | ⟨0, _⟩ => rfl | ⟨1, _⟩ => rfl | ⟨2, _⟩ => rfl | ⟨3, _⟩ => rfl).trans (keepCol_at i)
  rw [select_apply, hk, asCol_at, hostReduceAdd_apply]
  show Ideal.hostReduceAdd _ e _ (ix3 b h i) = _
  refine (Ideal.hostReduceAdd_single reducesTo_S2x32x256x256_S2x32x256_d3 (by decide) e _ (ix3 b h i)).trans ?_
  rw [constant_apply, Ideal.ofBits_zero_f32, zero_add]
  exact Finset.sum_congr rfl fun k _ => congrArg e (lift_row _ b h i k)

/-- A weight: every row is kept. -/
theorem weightR_at (e : FVec Ideal S2x32x256x256 .f32) (b : Fin 2) (h : Fin 32) (i j : Fin 256) :
    weightR e (ix4 b h i j) = Cert.Spec.weight (fun i j => e (ix4 b h i j)) i j := by
  unfold weightR Cert.Spec.weight
  have hk : broadcastInDim S2x32x256x256 ![0, 1, 2, 3] bcast_S1x1x256x1_S2x32x256x256_0_1_2_3 keepCol (ix4 b h i j) = 1#1 :=
    (broadcastInDim_apply _ _ _ _ (ix4 (0 : Fin 1) (0 : Fin 1) i (0 : Fin 1)) fun a => match a with | ⟨0, _⟩ => rfl | ⟨1, _⟩ => rfl | ⟨2, _⟩ => rfl | ⟨3, _⟩ => rfl).trans (keepCol_at i)
  rw [select_apply, hk, hostDivf_apply, spreadR_at, sumR_at]
  rfl

/-- Number `64 h + d` of them is head `h`'s column `d`. -/
theorem ctxR_at (W : FVec Ideal S2x256x32x64 .f32) (A : FVec Ideal S2x32x256x256 .f32) (b : Fin 2) (i : Fin 256) (k : Fin 2048) (h : Fin 32) (d : Fin 64)
    (hk : k.val = 64 * h.val + d.val) : ctxR W A (ix3 b i k) = ∑ j : Fin 256, A (ix4 b h i j) * W (ix4 b j h d) := by
  unfold ctxR
  refine (shapeCast_apply _ _ _ (ix4 b i h d) ?_).trans ?_
  · rw [Shape.rowMajor_val_three, Shape.rowMajor_val_four]
    show ((b.val * 256 + i.val) * 32 + h.val) * 64 + d.val = (b.val * 256 + i.val) * 2048 + k.val
    omega
  refine (transpose_apply _ _ _ (ix4 b i h d) (ix4 b h d i) fun a => match a with | ⟨0, _⟩ => rfl | ⟨1, _⟩ => rfl | ⟨2, _⟩ => rfl | ⟨3, _⟩ => rfl).trans ?_
  rw [mixed_at]
  exact Finset.sum_congr rfl fun j _ => mul_comm _ _

/-- The whole reference, its stages one after the other. -/
def wholeR (X : FVec Ideal S2x256x512 .f32) (WQ : FVec Ideal S512x2048 .f32) (K W : FVec Ideal S2x256x32x64 .f32) (WO : FVec Ideal S2048x512 .f32) :
    FVec Ideal S2x256x512 .f32 :=
  Host.dotGeneral dot_S2x256x2048_S2048x512_S2x256x512_2_0_01_1_n_n none (ctxR W (weightR (expR (scoresR X WQ K)))) WO

/-- The whole reference at an entry. -/
theorem wholeR_at (X : FVec Ideal S2x256x512 .f32) (WQ : FVec Ideal S512x2048 .f32) (K W : FVec Ideal S2x256x32x64 .f32) (WO : FVec Ideal S2048x512 .f32)
    (b : Fin 2) (i : Fin 256) (n : Fin 512) : wholeR X WQ K W WO (ix3 b i n) = Cert.Spec.result X WQ K W WO b i n := by
  unfold wholeR
  rw [projected_at]
  unfold Cert.Spec.result Cert.Spec.term Cert.Spec.context Cert.Spec.attend
  refine Finset.sum_congr rfl fun k _ => ?_
  have hk : k.val = 64 * (k.val / 64) + k.val % 64 := by omega
  rw [ctxR_at _ _ b i k ⟨k.val / 64, by omega⟩ ⟨k.val % 64, by omega⟩ hk]
  refine congrArg (· * WO (ix2 k n)) (Finset.sum_congr rfl fun j _ => ?_)
  rw [weightR_at]
  simp only [expR_at, scoresR_at]

variable (m : (ℓ : Loc nD τ sig) → Buf (Elt Ideal) ℓ)

/-- The reference's composed term is that. -/
theorem result_stages (c : Dev nD) :
    Value.res_main_v42 m c = wholeR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v42
  rfl

/-- **The reference's result, entry by entry, is the mathematics' result.** -/
theorem result_at (c : Dev nD) (b : Fin 2) (i : Fin 256) (n : Fin 512) :
    Value.res_main_v42 m c (ix3 b i n) = Cert.Spec.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b i n :=
  (congrFun (result_stages m c) _).trans (wholeR_at _ _ _ _ _ b i n)

end Cert.ReferenceIdeal.Read

end
-- ==== Proof.Same.lean ====
/-
  The kernel as it was printed and the kernel as it is read over the extended reals are one program: nothing was rewritten between them,
  so a run of the one is a run of the other.
-/
module

public import proofs.«01_k».proof.Proof.Gen.Kernel
public import proofs.«01_k».proof.Proof.Gen.KernelIdeal

@[expose] public section

namespace Cert.Same

open Idealize.ShloMosaic

variable {F : FTy → Type} [FloatOps F] [Cert.Kernel.Facts] [Cert.KernelIdeal.Facts]

/-- The two bodies are the same text. -/
theorem bodies : @Cert.Kernel.cc0_body F _ _ = @Cert.KernelIdeal.cc0_body F _ _ := rfl

/-- So are the tables that call them, label by label. -/
theorem tables : Cert.Kernel.defs₀ (F := F) = Cert.KernelIdeal.defs₀ (F := F) := by
  unfold Cert.Kernel.defs₀ Cert.KernelIdeal.defs₀
  refine congrArg Defs.onTc (funext fun l => ?_)
  obtain rfl : l = (0 : Fin 1) := Subsingleton.elim (α := Fin 1) _ _
  exact funext fun ⟨_, _⟩ => rfl

/-- And the tables with the pipeline's own labels. -/
theorem all_tables : Cert.Kernel.defs (F := F) = Cert.KernelIdeal.defs (F := F) :=
  congrArg (Pipeline.defs (Cert.KernelIdeal.pcfgs (F := F))) tables

end Cert.Same

end
-- ==== Proof.lean ====
/- The proof of the certificate's claims. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Feed
public import proofs.«01_k».proof.Proof.Refs
public import proofs.«01_k».proof.Proof.Same
public import Idealize.ShloMosaic.Lib.Quiescent

@[expose] public section

noncomputable section

namespace Cert.Proof

open Idealize.ShloMosaic Idealize.SL.Sem

/-- The kernel runs over the bits, its arguments unchanged and every counter at zero: it is the run over any values, at the bits. -/
theorem frame_kernel : Cert.quiescent_Kernel := fun m g _ => by
  have h := Cert.KernelIdeal.Run.run_frame (F := Bits) m g
  rw [← Cert.Same.all_tables (F := Bits)] at h
  exact h

/-- The kernel runs over the extended reals. -/
theorem frame_ideal : Cert.quiescent_KernelIdeal := fun m g _ => Cert.KernelIdeal.Run.run_frame (F := Ideal) m g

/-- The reference runs over the extended reals; it has no counters. -/
theorem frame_ref : Cert.quiescent_ReferenceIdeal := fun m g _ =>
  (θ_run (Cert.ReferenceIdeal.defs (F := Ideal)) _ _).mono (fun r h => ⟨fun c => (h c).2, sem_eq_zero_of_no_sems rfl r.2⟩) (Cert.ReferenceIdeal.Value.run (F := Ideal) m g)

/-- The two printings of the kernel are one program: no rewrite was made. -/
theorem same : Cert.preserves_Kernel_KernelIdeal := trivial

/-- Every device ends with the reference's result. -/
theorem algebraic : Cert.algebraic_KernelIdeal_ReferenceIdeal := fun m g m' g' _ hm => by
  have G : Cert.KernelIdeal.Run.Given m _ _ _ _ _ :=
    ⟨fun c => (hm c).1, fun c => (hm c).2.1, fun c => (hm c).2.2.1, fun c => (hm c).2.2.2.1, fun c => (hm c).2.2.2.2⟩
  refine ⟨Cert.ReferenceIdeal.Value.res_main_v42 m' 0, ?_, ?_⟩
  · refine (θ_run (Cert.KernelIdeal.defs (F := Ideal)) _ _).mono (fun r h c => ?_) (Cert.KernelIdeal.Run.run_main (F := Ideal) m g)
    refine ⟨(h.1 c).2.trans (funext fun j => ?_), (h.1 c).1⟩
    rw [ValueIdx.eq_ix3 j]
    exact (Cert.KernelIdeal.Run.result_at G c _ _ _).trans (Cert.ReferenceIdeal.Read.result_at m' 0 _ _ _).symm
  · exact (θ_run (Cert.ReferenceIdeal.defs (F := Ideal)) _ _).mono (fun r h => h 0) (Cert.ReferenceIdeal.Value.run (F := Ideal) m' g')

/-- The certificate's claims. -/
theorem claim : Cert.Claim := ⟨Cert.Kernel.Gen.facts, Cert.KernelIdeal.Gen.facts, Cert.ReferenceIdeal.Gen.facts,
  frame_kernel, frame_ideal, frame_ref, same, algebraic⟩

end Cert.Proof

end
